-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v106)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v106) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v458) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S10000x128 : Shape := ⟨2, ![10000, 128]⟩
abbrev S2x320000 : Shape := ⟨2, ![2, 320000]⟩
abbrev S320000 : Shape := ⟨1, ![320000]⟩
abbrev S4x128x50 : Shape := ⟨3, ![4, 128, 50]⟩
abbrev S4x1x50 : Shape := ⟨3, ![4, 1, 50]⟩
abbrev S4x50x50 : Shape := ⟨3, ![4, 50, 50]⟩
abbrev S4x50 : Shape := ⟨2, ![4, 50]⟩
abbrev S3x1x50 : Shape := ⟨3, ![3, 1, 50]⟩
abbrev S4x50x20 : Shape := ⟨3, ![4, 50, 20]⟩
abbrev S4x1x20 : Shape := ⟨3, ![4, 1, 20]⟩
abbrev S4x20x20 : Shape := ⟨3, ![4, 20, 20]⟩
abbrev S4x20 : Shape := ⟨2, ![4, 20]⟩
abbrev S3x1x20 : Shape := ⟨3, ![3, 1, 20]⟩
abbrev S20x1 : Shape := ⟨2, ![20, 1]⟩
abbrev S1 : Shape := ⟨1, ![1]⟩
abbrev S1x128x50 : Shape := ⟨3, ![1, 128, 50]⟩
abbrev S128x50 : Shape := ⟨2, ![128, 50]⟩
abbrev S_ : Shape := ⟨0, ![]⟩
abbrev S128x64 : Shape := ⟨2, ![128, 64]⟩
abbrev S1x50x20 : Shape := ⟨3, ![1, 50, 20]⟩
abbrev S50x20 : Shape := ⟨2, ![50, 20]⟩
abbrev S50x64 : Shape := ⟨2, ![50, 64]⟩
abbrev S64x64 : Shape := ⟨2, ![64, 64]⟩
abbrev S1x1x50 : Shape := ⟨3, ![1, 1, 50]⟩
abbrev S1x50 : Shape := ⟨2, ![1, 50]⟩
abbrev S50 : Shape := ⟨1, ![50]⟩
abbrev S1x64 : Shape := ⟨2, ![1, 64]⟩
abbrev S8x64 : Shape := ⟨2, ![8, 64]⟩
abbrev S1x1x20 : Shape := ⟨3, ![1, 1, 20]⟩
abbrev S1x20 : Shape := ⟨2, ![1, 20]⟩
abbrev S20 : Shape := ⟨1, ![20]⟩
abbrev S20x64 : Shape := ⟨2, ![20, 64]⟩
abbrev S1x1 : Shape := ⟨2, ![1, 1]⟩
abbrev S712x64 : Shape := ⟨2, ![712, 64]⟩
abbrev S10000x1 : Shape := ⟨2, ![10000, 1]⟩
abbrev S2000x128 : Shape := ⟨2, ![2000, 128]⟩
abbrev S2000x1 : Shape := ⟨2, ![2000, 1]⟩
abbrev S2000x64 : Shape := ⟨2, ![2000, 64]⟩
abbrev S64x1 : Shape := ⟨2, ![64, 1]⟩

abbrev nBuf : Space → Nat
  | .hbm => 198
  | .vmem => 5
  | .smem => 0
  | _ => 0

abbrev hbmTy0_0 (i : Nat) : BufTy := match i % 128 with
  | 0 => ⟨S10000x128, .f32⟩
  | 1 => ⟨S2x320000, .i32⟩
  | 2 => ⟨S320000, .f32⟩
  | 3 => ⟨S4x128x50, .f32⟩
  | 4 => ⟨S4x1x50, .f32⟩
  | 5 => ⟨S4x50x50, .f32⟩
  | 6 => ⟨S4x50x50, .f32⟩
  | 7 => ⟨S4x50, .f32⟩
  | 8 => ⟨S3x1x50, .f32⟩
  | 9 => ⟨S4x50x20, .f32⟩
  | 10 => ⟨S4x1x20, .f32⟩
  | 11 => ⟨S4x20x20, .f32⟩
  | 12 => ⟨S4x20x20, .f32⟩
  | 13 => ⟨S4x20, .f32⟩
  | 14 => ⟨S3x1x20, .f32⟩
  | 15 => ⟨S20x1, .f32⟩
  | 16 => ⟨S1, .f32⟩
  | 17 => ⟨S1x128x50, .f32⟩
  | 18 => ⟨S128x50, .f32⟩
  | 19 => ⟨S_, .f32⟩
  | 20 => ⟨S128x50, .f32⟩
  | 21 => ⟨S128x50, .f32⟩
  | 22 => ⟨S_, .i32⟩
  | 23 => ⟨S_, .f32⟩
  | 24 => ⟨S128x64, .f32⟩
  | 25 => ⟨S_, .i32⟩
  | 26 => ⟨S_, .f32⟩
  | 27 => ⟨S128x64, .f32⟩
  | 28 => ⟨S1x128x50, .f32⟩
  | 29 => ⟨S128x50, .f32⟩
  | 30 => ⟨S_, .i32⟩
  | 31 => ⟨S_, .f32⟩
  | 32 => ⟨S128x64, .f32⟩
  | 33 => ⟨S_, .i32⟩
  | 34 => ⟨S_, .f32⟩
  | 35 => ⟨S128x64, .f32⟩
  | 36 => ⟨S1x128x50, .f32⟩
  | 37 => ⟨S128x50, .f32⟩
  | 38 => ⟨S_, .f32⟩
  | 39 => ⟨S128x50, .f32⟩
  | 40 => ⟨S128x50, .f32⟩
  | 41 => ⟨S_, .i32⟩
  | 42 => ⟨S_, .f32⟩
  | 43 => ⟨S128x64, .f32⟩
  | 44 => ⟨S_, .i32⟩
  | 45 => ⟨S_, .f32⟩
  | 46 => ⟨S128x64, .f32⟩
  | 47 => ⟨S1x50x20, .f32⟩
  | 48 => ⟨S50x20, .f32⟩
  | 49 => ⟨S_, .f32⟩
  | 50 => ⟨S50x20, .f32⟩
  | 51 => ⟨S50x20, .f32⟩
  | 52 => ⟨S_, .i32⟩
  | 53 => ⟨S_, .f32⟩
  | 54 => ⟨S50x64, .f32⟩
  | 55 => ⟨S_, .i32⟩
  | 56 => ⟨S_, .f32⟩
  | 57 => ⟨S64x64, .f32⟩
  | 58 => ⟨S1x50x20, .f32⟩
  | 59 => ⟨S50x20, .f32⟩
  | 60 => ⟨S_, .i32⟩
  | 61 => ⟨S_, .f32⟩
  | 62 => ⟨S50x64, .f32⟩
  | 63 => ⟨S_, .i32⟩
  | 64 => ⟨S_, .f32⟩
  | 65 => ⟨S64x64, .f32⟩
  | 66 => ⟨S1x50x20, .f32⟩
  | 67 => ⟨S50x20, .f32⟩
  | 68 => ⟨S_, .f32⟩
  | 69 => ⟨S50x20, .f32⟩
  | 70 => ⟨S50x20, .f32⟩
  | 71 => ⟨S_, .i32⟩
  | 72 => ⟨S_, .f32⟩
  | 73 => ⟨S50x64, .f32⟩
  | 74 => ⟨S_, .i32⟩
  | 75 => ⟨S_, .f32⟩
  | 76 => ⟨S64x64, .f32⟩
  | 77 => ⟨S1x1x50, .f32⟩
  | 78 => ⟨S1x50, .f32⟩
  | 79 => ⟨S1x50, .f32⟩
  | 80 => ⟨S50, .f32⟩
  | 81 => ⟨S1x50, .f32⟩
  | 82 => ⟨S1x50, .f32⟩
  | 83 => ⟨S_, .f32⟩
  | 84 => ⟨S1x50, .f32⟩
  | 85 => ⟨S1x50, .f32⟩
  | 86 => ⟨S_, .i32⟩
  | 87 => ⟨S_, .f32⟩
  | 88 => ⟨S1x64, .f32⟩
  | 89 => ⟨S_, .i32⟩
  | 90 => ⟨S_, .f32⟩
  | 91 => ⟨S8x64, .f32⟩
  | 92 => ⟨S1x1x50, .f32⟩
  | 93 => ⟨S1x50, .f32⟩
  | 94 => ⟨S1x50, .f32⟩
  | 95 => ⟨S50, .f32⟩
  | 96 => ⟨S1x50, .f32⟩
  | 97 => ⟨S1x50, .f32⟩
  | 98 => ⟨S_, .i32⟩
  | 99 => ⟨S_, .f32⟩
  | 100 => ⟨S1x64, .f32⟩
  | 101 => ⟨S_, .i32⟩
  | 102 => ⟨S_, .f32⟩
  | 103 => ⟨S8x64, .f32⟩
  | 104 => ⟨S1x1x50, .f32⟩
  | 105 => ⟨S1x50, .f32⟩
  | 106 => ⟨S1x50, .f32⟩
  | 107 => ⟨S50, .f32⟩
  | 108 => ⟨S1x50, .f32⟩
  | 109 => ⟨S1x50, .f32⟩
  | 110 => ⟨S_, .f32⟩
  | 111 => ⟨S1x50, .f32⟩
  | 112 => ⟨S1x50, .f32⟩
  | 113 => ⟨S_, .i32⟩
  | 114 => ⟨S_, .f32⟩
  | 115 => ⟨S1x64, .f32⟩
  | 116 => ⟨S_, .i32⟩
  | 117 => ⟨S_, .f32⟩
  | 118 => ⟨S8x64, .f32⟩
  | 119 => ⟨S1x1x50, .f32⟩
  | 120 => ⟨S1x50, .f32⟩
  | 121 => ⟨S_, .f32⟩
  | 122 => ⟨S1x50, .f32⟩
  | 123 => ⟨S1x50, .f32⟩
  | 124 => ⟨S_, .i32⟩
  | 125 => ⟨S_, .f32⟩
  | 126 => ⟨S1x64, .f32⟩
  | 127 => ⟨S_, .i32⟩
  | _ => ⟨S10000x128, .f32⟩

abbrev hbmTy0_1 (i : Nat) : BufTy := match i % 128 with
  | 0 => ⟨S_, .f32⟩
  | 1 => ⟨S8x64, .f32⟩
  | 2 => ⟨S1x1x20, .f32⟩
  | 3 => ⟨S1x20, .f32⟩
  | 4 => ⟨S1x20, .f32⟩
  | 5 => ⟨S20, .f32⟩
  | 6 => ⟨S1x20, .f32⟩
  | 7 => ⟨S1x20, .f32⟩
  | 8 => ⟨S_, .f32⟩
  | 9 => ⟨S1x20, .f32⟩
  | 10 => ⟨S1x20, .f32⟩
  | 11 => ⟨S_, .i32⟩
  | 12 => ⟨S_, .f32⟩
  | 13 => ⟨S1x64, .f32⟩
  | 14 => ⟨S_, .i32⟩
  | 15 => ⟨S_, .f32⟩
  | 16 => ⟨S8x64, .f32⟩
  | 17 => ⟨S1x1x20, .f32⟩
  | 18 => ⟨S1x20, .f32⟩
  | 19 => ⟨S1x20, .f32⟩
  | 20 => ⟨S20, .f32⟩
  | 21 => ⟨S1x20, .f32⟩
  | 22 => ⟨S1x20, .f32⟩
  | 23 => ⟨S_, .i32⟩
  | 24 => ⟨S_, .f32⟩
  | 25 => ⟨S1x64, .f32⟩
  | 26 => ⟨S_, .i32⟩
  | 27 => ⟨S_, .f32⟩
  | 28 => ⟨S8x64, .f32⟩
  | 29 => ⟨S1x1x20, .f32⟩
  | 30 => ⟨S1x20, .f32⟩
  | 31 => ⟨S1x20, .f32⟩
  | 32 => ⟨S20, .f32⟩
  | 33 => ⟨S1x20, .f32⟩
  | 34 => ⟨S1x20, .f32⟩
  | 35 => ⟨S_, .f32⟩
  | 36 => ⟨S1x20, .f32⟩
  | 37 => ⟨S1x20, .f32⟩
  | 38 => ⟨S_, .i32⟩
  | 39 => ⟨S_, .f32⟩
  | 40 => ⟨S1x64, .f32⟩
  | 41 => ⟨S_, .i32⟩
  | 42 => ⟨S_, .f32⟩
  | 43 => ⟨S8x64, .f32⟩
  | 44 => ⟨S1x1x20, .f32⟩
  | 45 => ⟨S1x20, .f32⟩
  | 46 => ⟨S_, .f32⟩
  | 47 => ⟨S1x20, .f32⟩
  | 48 => ⟨S1x20, .f32⟩
  | 49 => ⟨S_, .i32⟩
  | 50 => ⟨S_, .f32⟩
  | 51 => ⟨S1x64, .f32⟩
  | 52 => ⟨S_, .i32⟩
  | 53 => ⟨S_, .f32⟩
  | 54 => ⟨S8x64, .f32⟩
  | 55 => ⟨S_, .i32⟩
  | 56 => ⟨S_, .f32⟩
  | 57 => ⟨S20x64, .f32⟩
  | 58 => ⟨S_, .i32⟩
  | 59 => ⟨S_, .f32⟩
  | 60 => ⟨S64x64, .f32⟩
  | 61 => ⟨S1x1, .f32⟩
  | 62 => ⟨S_, .i32⟩
  | 63 => ⟨S_, .f32⟩
  | 64 => ⟨S1x64, .f32⟩
  | 65 => ⟨S_, .i32⟩
  | 66 => ⟨S_, .f32⟩
  | 67 => ⟨S8x64, .f32⟩
  | 68 => ⟨S712x64, .f32⟩
  | 69 => ⟨S10000x1, .f32⟩
  | _ => ⟨S10000x128, .f32⟩

abbrev hbmTy (i : Nat) : BufTy := match i / 128 with
  | 0 => hbmTy0_0 i
  | 1 => hbmTy0_1 i
  | _ => ⟨S10000x128, .f32⟩

abbrev bufTy : (tb : Table) → Fin (tcTables nBuf tb) → BufTy
  | .hbm, ⟨i, _⟩ => hbmTy i
  | .local _ .vmem, ⟨0, _⟩ => ⟨S2000x128, .f32⟩
  | .local _ .vmem, ⟨1, _⟩ => ⟨S2000x128, .f32⟩
  | .local _ .vmem, ⟨2, _⟩ => ⟨S712x64, .f32⟩
  | .local _ .vmem, ⟨3, _⟩ => ⟨S2000x1, .f32⟩
  | .local _ .vmem, ⟨4, _⟩ => ⟨S2000x1, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_cst : Ref sig .tc := ⟨.hbm, 19, rfl⟩
abbrev main_v2 : Ref sig .tc := ⟨.hbm, 20, rfl⟩
abbrev main_v3 : Ref sig .tc := ⟨.hbm, 21, rfl⟩
abbrev main_c : Ref sig .tc := ⟨.hbm, 22, rfl⟩
abbrev main_call0_v0 : Ref sig .tc := ⟨.hbm, 23, rfl⟩
abbrev main_v4 : Ref sig .tc := ⟨.hbm, 24, rfl⟩
abbrev main_c_0 : Ref sig .tc := ⟨.hbm, 25, rfl⟩
abbrev main_call1_v0 : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩
abbrev main_c_1 : Ref sig .tc := ⟨.hbm, 30, rfl⟩
abbrev main_call2_v0 : Ref sig .tc := ⟨.hbm, 31, rfl⟩
abbrev main_v8 : Ref sig .tc := ⟨.hbm, 32, rfl⟩
abbrev main_c_2 : Ref sig .tc := ⟨.hbm, 33, rfl⟩
abbrev main_call3_v0 : Ref sig .tc := ⟨.hbm, 34, rfl⟩
abbrev main_v9 : Ref sig .tc := ⟨.hbm, 35, rfl⟩
abbrev main_v10 : Ref sig .tc := ⟨.hbm, 36, rfl⟩
abbrev main_v11 : Ref sig .tc := ⟨.hbm, 37, rfl⟩
abbrev main_cst_3 : Ref sig .tc := ⟨.hbm, 38, rfl⟩
abbrev main_v12 : Ref sig .tc := ⟨.hbm, 39, rfl⟩
abbrev main_v13 : Ref sig .tc := ⟨.hbm, 40, rfl⟩
abbrev main_c_4 : Ref sig .tc := ⟨.hbm, 41, rfl⟩
abbrev main_call4_v0 : Ref sig .tc := ⟨.hbm, 42, rfl⟩
abbrev main_v14 : Ref sig .tc := ⟨.hbm, 43, rfl⟩
abbrev main_c_5 : Ref sig .tc := ⟨.hbm, 44, rfl⟩
abbrev main_call5_v0 : Ref sig .tc := ⟨.hbm, 45, rfl⟩
abbrev main_v15 : Ref sig .tc := ⟨.hbm, 46, rfl⟩
abbrev main_v16 : Ref sig .tc := ⟨.hbm, 47, rfl⟩
abbrev main_v17 : Ref sig .tc := ⟨.hbm, 48, rfl⟩
abbrev main_cst_6 : Ref sig .tc := ⟨.hbm, 49, rfl⟩
abbrev main_v18 : Ref sig .tc := ⟨.hbm, 50, rfl⟩
abbrev main_v19 : Ref sig .tc := ⟨.hbm, 51, rfl⟩
abbrev main_c_7 : Ref sig .tc := ⟨.hbm, 52, rfl⟩
abbrev main_call6_v0 : Ref sig .tc := ⟨.hbm, 53, rfl⟩
abbrev main_v20 : Ref sig .tc := ⟨.hbm, 54, rfl⟩
abbrev main_c_8 : Ref sig .tc := ⟨.hbm, 55, rfl⟩
abbrev main_call7_v0 : Ref sig .tc := ⟨.hbm, 56, rfl⟩
abbrev main_v21 : Ref sig .tc := ⟨.hbm, 57, rfl⟩
abbrev main_v22 : Ref sig .tc := ⟨.hbm, 58, rfl⟩
abbrev main_v23 : Ref sig .tc := ⟨.hbm, 59, rfl⟩
abbrev main_c_9 : Ref sig .tc := ⟨.hbm, 60, rfl⟩
abbrev main_call8_v0 : Ref sig .tc := ⟨.hbm, 61, rfl⟩
abbrev main_v24 : Ref sig .tc := ⟨.hbm, 62, rfl⟩
abbrev main_c_10 : Ref sig .tc := ⟨.hbm, 63, rfl⟩
abbrev main_call9_v0 : Ref sig .tc := ⟨.hbm, 64, rfl⟩
abbrev main_v25 : Ref sig .tc := ⟨.hbm, 65, rfl⟩
abbrev main_v26 : Ref sig .tc := ⟨.hbm, 66, rfl⟩
abbrev main_v27 : Ref sig .tc := ⟨.hbm, 67, rfl⟩
abbrev main_cst_11 : Ref sig .tc := ⟨.hbm, 68, rfl⟩
abbrev main_v28 : Ref sig .tc := ⟨.hbm, 69, rfl⟩
abbrev main_v29 : Ref sig .tc := ⟨.hbm, 70, rfl⟩
abbrev main_c_12 : Ref sig .tc := ⟨.hbm, 71, rfl⟩
abbrev main_call10_v0 : Ref sig .tc := ⟨.hbm, 72, rfl⟩
abbrev main_v30 : Ref sig .tc := ⟨.hbm, 73, rfl⟩
abbrev main_c_13 : Ref sig .tc := ⟨.hbm, 74, rfl⟩
abbrev main_call11_v0 : Ref sig .tc := ⟨.hbm, 75, rfl⟩
abbrev main_v31 : Ref sig .tc := ⟨.hbm, 76, rfl⟩
abbrev main_v32 : Ref sig .tc := ⟨.hbm, 77, rfl⟩
abbrev main_v33 : Ref sig .tc := ⟨.hbm, 78, rfl⟩
abbrev main_v34 : Ref sig .tc := ⟨.hbm, 79, rfl⟩
abbrev main_v35 : Ref sig .tc := ⟨.hbm, 80, rfl⟩
abbrev main_v36 : Ref sig .tc := ⟨.hbm, 81, rfl⟩
abbrev main_v37 : Ref sig .tc := ⟨.hbm, 82, rfl⟩
abbrev main_cst_14 : Ref sig .tc := ⟨.hbm, 83, rfl⟩
abbrev main_v38 : Ref sig .tc := ⟨.hbm, 84, rfl⟩
abbrev main_v39 : Ref sig .tc := ⟨.hbm, 85, rfl⟩
abbrev main_c_15 : Ref sig .tc := ⟨.hbm, 86, rfl⟩
abbrev main_call12_v0 : Ref sig .tc := ⟨.hbm, 87, rfl⟩
abbrev main_v40 : Ref sig .tc := ⟨.hbm, 88, rfl⟩
abbrev main_c_16 : Ref sig .tc := ⟨.hbm, 89, rfl⟩
abbrev main_call13_v0 : Ref sig .tc := ⟨.hbm, 90, rfl⟩
abbrev main_v41 : Ref sig .tc := ⟨.hbm, 91, rfl⟩
abbrev main_v42 : Ref sig .tc := ⟨.hbm, 92, rfl⟩
abbrev main_v43 : Ref sig .tc := ⟨.hbm, 93, rfl⟩
abbrev main_v44 : Ref sig .tc := ⟨.hbm, 94, rfl⟩
abbrev main_v45 : Ref sig .tc := ⟨.hbm, 95, rfl⟩
abbrev main_v46 : Ref sig .tc := ⟨.hbm, 96, rfl⟩
abbrev main_v47 : Ref sig .tc := ⟨.hbm, 97, rfl⟩
abbrev main_c_17 : Ref sig .tc := ⟨.hbm, 98, rfl⟩
abbrev main_call14_v0 : Ref sig .tc := ⟨.hbm, 99, rfl⟩
abbrev main_v48 : Ref sig .tc := ⟨.hbm, 100, rfl⟩
abbrev main_c_18 : Ref sig .tc := ⟨.hbm, 101, rfl⟩
abbrev main_call15_v0 : Ref sig .tc := ⟨.hbm, 102, rfl⟩
abbrev main_v49 : Ref sig .tc := ⟨.hbm, 103, rfl⟩
abbrev main_v50 : Ref sig .tc := ⟨.hbm, 104, rfl⟩
abbrev main_v51 : Ref sig .tc := ⟨.hbm, 105, rfl⟩
abbrev main_v52 : Ref sig .tc := ⟨.hbm, 106, rfl⟩
abbrev main_v53 : Ref sig .tc := ⟨.hbm, 107, rfl⟩
abbrev main_v54 : Ref sig .tc := ⟨.hbm, 108, rfl⟩
abbrev main_v55 : Ref sig .tc := ⟨.hbm, 109, rfl⟩
abbrev main_cst_19 : Ref sig .tc := ⟨.hbm, 110, rfl⟩
abbrev main_v56 : Ref sig .tc := ⟨.hbm, 111, rfl⟩
abbrev main_v57 : Ref sig .tc := ⟨.hbm, 112, rfl⟩
abbrev main_c_20 : Ref sig .tc := ⟨.hbm, 113, rfl⟩
abbrev main_call16_v0 : Ref sig .tc := ⟨.hbm, 114, rfl⟩
abbrev main_v58 : Ref sig .tc := ⟨.hbm, 115, rfl⟩
abbrev main_c_21 : Ref sig .tc := ⟨.hbm, 116, rfl⟩
abbrev main_call17_v0 : Ref sig .tc := ⟨.hbm, 117, rfl⟩
abbrev main_v59 : Ref sig .tc := ⟨.hbm, 118, rfl⟩
abbrev main_v60 : Ref sig .tc := ⟨.hbm, 119, rfl⟩
abbrev main_v61 : Ref sig .tc := ⟨.hbm, 120, rfl⟩
abbrev main_cst_22 : Ref sig .tc := ⟨.hbm, 121, rfl⟩
abbrev main_v62 : Ref sig .tc := ⟨.hbm, 122, rfl⟩
abbrev main_v63 : Ref sig .tc := ⟨.hbm, 123, rfl⟩
abbrev main_c_23 : Ref sig .tc := ⟨.hbm, 124, rfl⟩
abbrev main_call18_v0 : Ref sig .tc := ⟨.hbm, 125, rfl⟩
abbrev main_v64 : Ref sig .tc := ⟨.hbm, 126, rfl⟩
abbrev main_c_24 : Ref sig .tc := ⟨.hbm, 127, rfl⟩
abbrev main_call19_v0 : Ref sig .tc := ⟨.hbm, 128, rfl⟩
abbrev main_v65 : Ref sig .tc := ⟨.hbm, 129, rfl⟩
abbrev main_v66 : Ref sig .tc := ⟨.hbm, 130, rfl⟩
abbrev main_v67 : Ref sig .tc := ⟨.hbm, 131, rfl⟩
abbrev main_v68 : Ref sig .tc := ⟨.hbm, 132, rfl⟩
abbrev main_v69 : Ref sig .tc := ⟨.hbm, 133, rfl⟩
abbrev main_v70 : Ref sig .tc := ⟨.hbm, 134, rfl⟩
abbrev main_v71 : Ref sig .tc := ⟨.hbm, 135, rfl⟩
abbrev main_cst_25 : Ref sig .tc := ⟨.hbm, 136, rfl⟩
abbrev main_v72 : Ref sig .tc := ⟨.hbm, 137, rfl⟩
abbrev main_v73 : Ref sig .tc := ⟨.hbm, 138, rfl⟩
abbrev main_c_26 : Ref sig .tc := ⟨.hbm, 139, rfl⟩
abbrev main_call20_v0 : Ref sig .tc := ⟨.hbm, 140, rfl⟩
abbrev main_v74 : Ref sig .tc := ⟨.hbm, 141, rfl⟩
abbrev main_c_27 : Ref sig .tc := ⟨.hbm, 142, rfl⟩
abbrev main_call21_v0 : Ref sig .tc := ⟨.hbm, 143, rfl⟩
abbrev main_v75 : Ref sig .tc := ⟨.hbm, 144, rfl⟩
abbrev main_v76 : Ref sig .tc := ⟨.hbm, 145, rfl⟩
abbrev main_v77 : Ref sig .tc := ⟨.hbm, 146, rfl⟩
abbrev main_v78 : Ref sig .tc := ⟨.hbm, 147, rfl⟩
abbrev main_v79 : Ref sig .tc := ⟨.hbm, 148, rfl⟩
abbrev main_v80 : Ref sig .tc := ⟨.hbm, 149, rfl⟩
abbrev main_v81 : Ref sig .tc := ⟨.hbm, 150, rfl⟩
abbrev main_c_28 : Ref sig .tc := ⟨.hbm, 151, rfl⟩
abbrev main_call22_v0 : Ref sig .tc := ⟨.hbm, 152, rfl⟩
abbrev main_v82 : Ref sig .tc := ⟨.hbm, 153, rfl⟩
abbrev main_c_29 : Ref sig .tc := ⟨.hbm, 154, rfl⟩
abbrev main_call23_v0 : Ref sig .tc := ⟨.hbm, 155, rfl⟩
abbrev main_v83 : Ref sig .tc := ⟨.hbm, 156, rfl⟩
abbrev main_v84 : Ref sig .tc := ⟨.hbm, 157, rfl⟩
abbrev main_v85 : Ref sig .tc := ⟨.hbm, 158, rfl⟩
abbrev main_v86 : Ref sig .tc := ⟨.hbm, 159, rfl⟩
abbrev main_v87 : Ref sig .tc := ⟨.hbm, 160, rfl⟩
abbrev main_v88 : Ref sig .tc := ⟨.hbm, 161, rfl⟩
abbrev main_v89 : Ref sig .tc := ⟨.hbm, 162, rfl⟩
abbrev main_cst_30 : Ref sig .tc := ⟨.hbm, 163, rfl⟩
abbrev main_v90 : Ref sig .tc := ⟨.hbm, 164, rfl⟩
abbrev main_v91 : Ref sig .tc := ⟨.hbm, 165, rfl⟩
abbrev main_c_31 : Ref sig .tc := ⟨.hbm, 166, rfl⟩
abbrev main_call24_v0 : Ref sig .tc := ⟨.hbm, 167, rfl⟩
abbrev main_v92 : Ref sig .tc := ⟨.hbm, 168, rfl⟩
abbrev main_c_32 : Ref sig .tc := ⟨.hbm, 169, rfl⟩
abbrev main_call25_v0 : Ref sig .tc := ⟨.hbm, 170, rfl⟩
abbrev main_v93 : Ref sig .tc := ⟨.hbm, 171, rfl⟩
abbrev main_v94 : Ref sig .tc := ⟨.hbm, 172, rfl⟩
abbrev main_v95 : Ref sig .tc := ⟨.hbm, 173, rfl⟩
abbrev main_cst_33 : Ref sig .tc := ⟨.hbm, 174, rfl⟩
abbrev main_v96 : Ref sig .tc := ⟨.hbm, 175, rfl⟩
abbrev main_v97 : Ref sig .tc := ⟨.hbm, 176, rfl⟩
abbrev main_c_34 : Ref sig .tc := ⟨.hbm, 177, rfl⟩
abbrev main_call26_v0 : Ref sig .tc := ⟨.hbm, 178, rfl⟩
abbrev main_v98 : Ref sig .tc := ⟨.hbm, 179, rfl⟩
abbrev main_c_35 : Ref sig .tc := ⟨.hbm, 180, rfl⟩
abbrev main_call27_v0 : Ref sig .tc := ⟨.hbm, 181, rfl⟩
abbrev main_v99 : Ref sig .tc := ⟨.hbm, 182, rfl⟩
abbrev main_c_36 : Ref sig .tc := ⟨.hbm, 183, rfl⟩
abbrev main_call28_v0 : Ref sig .tc := ⟨.hbm, 184, rfl⟩
abbrev main_v100 : Ref sig .tc := ⟨.hbm, 185, rfl⟩
abbrev main_c_37 : Ref sig .tc := ⟨.hbm, 186, rfl⟩
abbrev main_call29_v0 : Ref sig .tc := ⟨.hbm, 187, rfl⟩
abbrev main_v101 : Ref sig .tc := ⟨.hbm, 188, rfl⟩
abbrev main_v102 : Ref sig .tc := ⟨.hbm, 189, rfl⟩
abbrev main_c_38 : Ref sig .tc := ⟨.hbm, 190, rfl⟩
abbrev main_call30_v0 : Ref sig .tc := ⟨.hbm, 191, rfl⟩
abbrev main_v103 : Ref sig .tc := ⟨.hbm, 192, rfl⟩
abbrev main_c_39 : Ref sig .tc := ⟨.hbm, 193, rfl⟩
abbrev main_call31_v0 : Ref sig .tc := ⟨.hbm, 194, rfl⟩
abbrev main_v104 : Ref sig .tc := ⟨.hbm, 195, rfl⟩
abbrev main_v105 : Ref sig .tc := ⟨.hbm, 196, rfl⟩
abbrev main_v106 : Ref sig .tc := ⟨.hbm, 197, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S712x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ReferenceIdeal.lean ====
abbrev S10000x128 : Shape := ⟨2, ![10000, 128]⟩
abbrev S2x320000 : Shape := ⟨2, ![2, 320000]⟩
abbrev S320000 : Shape := ⟨1, ![320000]⟩
abbrev S4x128x50 : Shape := ⟨3, ![4, 128, 50]⟩
abbrev S4x1x50 : Shape := ⟨3, ![4, 1, 50]⟩
abbrev S4x50x50 : Shape := ⟨3, ![4, 50, 50]⟩
abbrev S4x50 : Shape := ⟨2, ![4, 50]⟩
abbrev S3x1x50 : Shape := ⟨3, ![3, 1, 50]⟩
abbrev S4x50x20 : Shape := ⟨3, ![4, 50, 20]⟩
abbrev S4x1x20 : Shape := ⟨3, ![4, 1, 20]⟩
abbrev S4x20x20 : Shape := ⟨3, ![4, 20, 20]⟩
abbrev S4x20 : Shape := ⟨2, ![4, 20]⟩
abbrev S3x1x20 : Shape := ⟨3, ![3, 1, 20]⟩
abbrev S20x1 : Shape := ⟨2, ![20, 1]⟩
abbrev S1 : Shape := ⟨1, ![1]⟩
abbrev S1x320000 : Shape := ⟨2, ![1, 320000]⟩
abbrev S_ : Shape := ⟨0, ![]⟩
abbrev S10000 : Shape := ⟨1, ![10000]⟩
abbrev S320000x1 : Shape := ⟨2, ![320000, 1]⟩
abbrev S10000x50 : Shape := ⟨2, ![10000, 50]⟩
abbrev S1x128x50 : Shape := ⟨3, ![1, 128, 50]⟩
abbrev S128x50 : Shape := ⟨2, ![128, 50]⟩
abbrev S1x50x50 : Shape := ⟨3, ![1, 50, 50]⟩
abbrev S50x50 : Shape := ⟨2, ![50, 50]⟩
abbrev S1x50 : Shape := ⟨2, ![1, 50]⟩
abbrev S50 : Shape := ⟨1, ![50]⟩
abbrev S320000x50 : Shape := ⟨2, ![320000, 50]⟩
abbrev S1x1x50 : Shape := ⟨3, ![1, 1, 50]⟩
abbrev S10000x20 : Shape := ⟨2, ![10000, 20]⟩
abbrev S1x50x20 : Shape := ⟨3, ![1, 50, 20]⟩
abbrev S50x20 : Shape := ⟨2, ![50, 20]⟩
abbrev S1x20x20 : Shape := ⟨3, ![1, 20, 20]⟩
abbrev S20x20 : Shape := ⟨2, ![20, 20]⟩
abbrev S1x20 : Shape := ⟨2, ![1, 20]⟩
abbrev S20 : Shape := ⟨1, ![20]⟩
abbrev S320000x20 : Shape := ⟨2, ![320000, 20]⟩
abbrev S1x1x20 : Shape := ⟨3, ![1, 1, 20]⟩
abbrev S10000x1 : Shape := ⟨2, ![10000, 1]⟩
abbrev S1x1 : Shape := ⟨2, ![1, 1]⟩

abbrev nBuf : Space → Nat
  | .hbm => 549
  | .vmem => 0
  | .smem => 0
  | _ => 0

abbrev hbmTy0_0 (i : Nat) : BufTy := match i % 128 with
  | 0 => ⟨S10000x128, .f32⟩
  | 1 => ⟨S2x320000, .i32⟩
  | 2 => ⟨S320000, .f32⟩
  | 3 => ⟨S4x128x50, .f32⟩
  | 4 => ⟨S4x1x50, .f32⟩
  | 5 => ⟨S4x50x50, .f32⟩
  | 6 => ⟨S4x50x50, .f32⟩
  | 7 => ⟨S4x50, .f32⟩
  | 8 => ⟨S3x1x50, .f32⟩
  | 9 => ⟨S4x50x20, .f32⟩
  | 10 => ⟨S4x1x20, .f32⟩
  | 11 => ⟨S4x20x20, .f32⟩
  | 12 => ⟨S4x20x20, .f32⟩
  | 13 => ⟨S4x20, .f32⟩
  | 14 => ⟨S3x1x20, .f32⟩
  | 15 => ⟨S20x1, .f32⟩
  | 16 => ⟨S1, .f32⟩
  | 17 => ⟨S1x320000, .i32⟩
  | 18 => ⟨S320000, .i32⟩
  | 19 => ⟨S1x320000, .i32⟩
  | 20 => ⟨S320000, .i32⟩
  | 21 => ⟨S_, .f32⟩
  | 22 => ⟨S10000, .f32⟩
  | 23 => ⟨S_, .i32⟩
  | 24 => ⟨S320000, .i32⟩
  | 25 => ⟨S320000, .i1⟩
  | 26 => ⟨S_, .i32⟩
  | 27 => ⟨S320000, .i32⟩
  | 28 => ⟨S320000, .i32⟩
  | 29 => ⟨S320000, .i32⟩
  | 30 => ⟨S320000x1, .i32⟩
  | 31 => ⟨S10000, .f32⟩
  | 32 => ⟨S_, .f32⟩
  | 33 => ⟨S10000, .f32⟩
  | 34 => ⟨S10000, .i1⟩
  | 35 => ⟨S_, .f32⟩
  | 36 => ⟨S_, .f32⟩
  | 37 => ⟨S10000, .f32⟩
  | 38 => ⟨S10000, .f32⟩
  | 39 => ⟨S_, .f32⟩
  | 40 => ⟨S10000, .f32⟩
  | 41 => ⟨S10000, .i1⟩
  | 42 => ⟨S10000, .f32⟩
  | 43 => ⟨S_, .f32⟩
  | 44 => ⟨S_, .f32⟩
  | 45 => ⟨S10000, .f32⟩
  | 46 => ⟨S10000, .f32⟩
  | 47 => ⟨S_, .i32⟩
  | 48 => ⟨S320000, .i32⟩
  | 49 => ⟨S320000, .i1⟩
  | 50 => ⟨S_, .i32⟩
  | 51 => ⟨S320000, .i32⟩
  | 52 => ⟨S320000, .i32⟩
  | 53 => ⟨S320000, .i32⟩
  | 54 => ⟨S320000x1, .i32⟩
  | 55 => ⟨S320000, .f32⟩
  | 56 => ⟨S320000, .f32⟩
  | 57 => ⟨S320000, .f32⟩
  | 58 => ⟨S_, .i32⟩
  | 59 => ⟨S320000, .i32⟩
  | 60 => ⟨S320000, .i1⟩
  | 61 => ⟨S_, .i32⟩
  | 62 => ⟨S320000, .i32⟩
  | 63 => ⟨S320000, .i32⟩
  | 64 => ⟨S320000, .i32⟩
  | 65 => ⟨S320000x1, .i32⟩
  | 66 => ⟨S320000, .f32⟩
  | 67 => ⟨S320000, .f32⟩
  | 68 => ⟨S_, .f32⟩
  | 69 => ⟨S10000x50, .f32⟩
  | 70 => ⟨S_, .f32⟩
  | 71 => ⟨S10000x50, .f32⟩
  | 72 => ⟨S1x128x50, .f32⟩
  | 73 => ⟨S128x50, .f32⟩
  | 74 => ⟨S10000x50, .f32⟩
  | 75 => ⟨S1x50x50, .f32⟩
  | 76 => ⟨S50x50, .f32⟩
  | 77 => ⟨S1x50x50, .f32⟩
  | 78 => ⟨S50x50, .f32⟩
  | 79 => ⟨S1x50, .f32⟩
  | 80 => ⟨S50, .f32⟩
  | 81 => ⟨S1x320000, .i32⟩
  | 82 => ⟨S320000, .i32⟩
  | 83 => ⟨S1x320000, .i32⟩
  | 84 => ⟨S320000, .i32⟩
  | 85 => ⟨S_, .f32⟩
  | 86 => ⟨S10000x50, .f32⟩
  | 87 => ⟨S320000x1, .f32⟩
  | 88 => ⟨S_, .i32⟩
  | 89 => ⟨S320000, .i32⟩
  | 90 => ⟨S320000, .i1⟩
  | 91 => ⟨S_, .i32⟩
  | 92 => ⟨S320000, .i32⟩
  | 93 => ⟨S320000, .i32⟩
  | 94 => ⟨S320000, .i32⟩
  | 95 => ⟨S320000x1, .i32⟩
  | 96 => ⟨S320000x50, .f32⟩
  | 97 => ⟨S320000x50, .f32⟩
  | 98 => ⟨S320000x50, .f32⟩
  | 99 => ⟨S_, .i32⟩
  | 100 => ⟨S320000, .i32⟩
  | 101 => ⟨S320000, .i1⟩
  | 102 => ⟨S_, .i32⟩
  | 103 => ⟨S320000, .i32⟩
  | 104 => ⟨S320000, .i32⟩
  | 105 => ⟨S320000, .i32⟩
  | 106 => ⟨S320000x1, .i32⟩
  | 107 => ⟨S10000x50, .f32⟩
  | 108 => ⟨S10000x50, .f32⟩
  | 109 => ⟨S10000x50, .f32⟩
  | 110 => ⟨S10000x50, .f32⟩
  | 111 => ⟨S1x50, .f32⟩
  | 112 => ⟨S10000x50, .f32⟩
  | 113 => ⟨S10000x50, .f32⟩
  | 114 => ⟨S10000x50, .f32⟩
  | 115 => ⟨S1x1x50, .f32⟩
  | 116 => ⟨S1x50, .f32⟩
  | 117 => ⟨S10000x50, .f32⟩
  | 118 => ⟨S10000x50, .f32⟩
  | 119 => ⟨S10000x50, .f32⟩
  | 120 => ⟨S1x1x50, .f32⟩
  | 121 => ⟨S1x50, .f32⟩
  | 122 => ⟨S10000x50, .f32⟩
  | 123 => ⟨S10000x50, .f32⟩
  | 124 => ⟨S10000x50, .f32⟩
  | 125 => ⟨S10000x50, .f32⟩
  | 126 => ⟨S_, .f32⟩
  | 127 => ⟨S10000x50, .f32⟩
  | _ => ⟨S10000x128, .f32⟩

abbrev hbmTy0_1 (i : Nat) : BufTy := match i % 128 with
  | 0 => ⟨S10000x50, .f32⟩
  | 1 => ⟨S_, .f32⟩
  | 2 => ⟨S10000x50, .f32⟩
  | 3 => ⟨S10000x50, .f32⟩
  | 4 => ⟨S1x128x50, .f32⟩
  | 5 => ⟨S128x50, .f32⟩
  | 6 => ⟨S10000x50, .f32⟩
  | 7 => ⟨S1x50x50, .f32⟩
  | 8 => ⟨S50x50, .f32⟩
  | 9 => ⟨S1x50x50, .f32⟩
  | 10 => ⟨S50x50, .f32⟩
  | 11 => ⟨S1x50, .f32⟩
  | 12 => ⟨S50, .f32⟩
  | 13 => ⟨S1x320000, .i32⟩
  | 14 => ⟨S320000, .i32⟩
  | 15 => ⟨S1x320000, .i32⟩
  | 16 => ⟨S320000, .i32⟩
  | 17 => ⟨S_, .f32⟩
  | 18 => ⟨S10000x50, .f32⟩
  | 19 => ⟨S320000x1, .f32⟩
  | 20 => ⟨S_, .i32⟩
  | 21 => ⟨S320000, .i32⟩
  | 22 => ⟨S320000, .i1⟩
  | 23 => ⟨S_, .i32⟩
  | 24 => ⟨S320000, .i32⟩
  | 25 => ⟨S320000, .i32⟩
  | 26 => ⟨S320000, .i32⟩
  | 27 => ⟨S320000x1, .i32⟩
  | 28 => ⟨S320000x50, .f32⟩
  | 29 => ⟨S320000x50, .f32⟩
  | 30 => ⟨S320000x50, .f32⟩
  | 31 => ⟨S_, .i32⟩
  | 32 => ⟨S320000, .i32⟩
  | 33 => ⟨S320000, .i1⟩
  | 34 => ⟨S_, .i32⟩
  | 35 => ⟨S320000, .i32⟩
  | 36 => ⟨S320000, .i32⟩
  | 37 => ⟨S320000, .i32⟩
  | 38 => ⟨S320000x1, .i32⟩
  | 39 => ⟨S10000x50, .f32⟩
  | 40 => ⟨S10000x50, .f32⟩
  | 41 => ⟨S10000x50, .f32⟩
  | 42 => ⟨S10000x50, .f32⟩
  | 43 => ⟨S1x50, .f32⟩
  | 44 => ⟨S10000x50, .f32⟩
  | 45 => ⟨S10000x50, .f32⟩
  | 46 => ⟨S10000x50, .f32⟩
  | 47 => ⟨S1x1x50, .f32⟩
  | 48 => ⟨S1x50, .f32⟩
  | 49 => ⟨S10000x50, .f32⟩
  | 50 => ⟨S10000x50, .f32⟩
  | 51 => ⟨S10000x50, .f32⟩
  | 52 => ⟨S1x1x50, .f32⟩
  | 53 => ⟨S1x50, .f32⟩
  | 54 => ⟨S10000x50, .f32⟩
  | 55 => ⟨S10000x50, .f32⟩
  | 56 => ⟨S10000x50, .f32⟩
  | 57 => ⟨S10000x50, .f32⟩
  | 58 => ⟨S_, .f32⟩
  | 59 => ⟨S10000x50, .f32⟩
  | 60 => ⟨S10000x50, .f32⟩
  | 61 => ⟨S_, .f32⟩
  | 62 => ⟨S10000x50, .f32⟩
  | 63 => ⟨S10000x50, .f32⟩
  | 64 => ⟨S1x128x50, .f32⟩
  | 65 => ⟨S128x50, .f32⟩
  | 66 => ⟨S10000x50, .f32⟩
  | 67 => ⟨S1x50x50, .f32⟩
  | 68 => ⟨S50x50, .f32⟩
  | 69 => ⟨S1x50x50, .f32⟩
  | 70 => ⟨S50x50, .f32⟩
  | 71 => ⟨S1x50, .f32⟩
  | 72 => ⟨S50, .f32⟩
  | 73 => ⟨S1x320000, .i32⟩
  | 74 => ⟨S320000, .i32⟩
  | 75 => ⟨S1x320000, .i32⟩
  | 76 => ⟨S320000, .i32⟩
  | 77 => ⟨S_, .f32⟩
  | 78 => ⟨S10000x50, .f32⟩
  | 79 => ⟨S320000x1, .f32⟩
  | 80 => ⟨S_, .i32⟩
  | 81 => ⟨S320000, .i32⟩
  | 82 => ⟨S320000, .i1⟩
  | 83 => ⟨S_, .i32⟩
  | 84 => ⟨S320000, .i32⟩
  | 85 => ⟨S320000, .i32⟩
  | 86 => ⟨S320000, .i32⟩
  | 87 => ⟨S320000x1, .i32⟩
  | 88 => ⟨S320000x50, .f32⟩
  | 89 => ⟨S320000x50, .f32⟩
  | 90 => ⟨S320000x50, .f32⟩
  | 91 => ⟨S_, .i32⟩
  | 92 => ⟨S320000, .i32⟩
  | 93 => ⟨S320000, .i1⟩
  | 94 => ⟨S_, .i32⟩
  | 95 => ⟨S320000, .i32⟩
  | 96 => ⟨S320000, .i32⟩
  | 97 => ⟨S320000, .i32⟩
  | 98 => ⟨S320000x1, .i32⟩
  | 99 => ⟨S10000x50, .f32⟩
  | 100 => ⟨S10000x50, .f32⟩
  | 101 => ⟨S10000x50, .f32⟩
  | 102 => ⟨S10000x50, .f32⟩
  | 103 => ⟨S1x50, .f32⟩
  | 104 => ⟨S10000x50, .f32⟩
  | 105 => ⟨S10000x50, .f32⟩
  | 106 => ⟨S10000x50, .f32⟩
  | 107 => ⟨S1x1x50, .f32⟩
  | 108 => ⟨S1x50, .f32⟩
  | 109 => ⟨S10000x50, .f32⟩
  | 110 => ⟨S10000x50, .f32⟩
  | 111 => ⟨S10000x50, .f32⟩
  | 112 => ⟨S10000x50, .f32⟩
  | 113 => ⟨S10000x50, .f32⟩
  | 114 => ⟨S10000x50, .f32⟩
  | 115 => ⟨S1x128x50, .f32⟩
  | 116 => ⟨S128x50, .f32⟩
  | 117 => ⟨S10000x50, .f32⟩
  | 118 => ⟨S1x50x50, .f32⟩
  | 119 => ⟨S50x50, .f32⟩
  | 120 => ⟨S1x50x50, .f32⟩
  | 121 => ⟨S50x50, .f32⟩
  | 122 => ⟨S1x50, .f32⟩
  | 123 => ⟨S50, .f32⟩
  | 124 => ⟨S1x320000, .i32⟩
  | 125 => ⟨S320000, .i32⟩
  | 126 => ⟨S1x320000, .i32⟩
  | 127 => ⟨S320000, .i32⟩
  | _ => ⟨S10000x128, .f32⟩

abbrev hbmTy0_2 (i : Nat) : BufTy := match i % 128 with
  | 0 => ⟨S_, .f32⟩
  | 1 => ⟨S10000x50, .f32⟩
  | 2 => ⟨S320000x1, .f32⟩
  | 3 => ⟨S_, .i32⟩
  | 4 => ⟨S320000, .i32⟩
  | 5 => ⟨S320000, .i1⟩
  | 6 => ⟨S_, .i32⟩
  | 7 => ⟨S320000, .i32⟩
  | 8 => ⟨S320000, .i32⟩
  | 9 => ⟨S320000, .i32⟩
  | 10 => ⟨S320000x1, .i32⟩
  | 11 => ⟨S320000x50, .f32⟩
  | 12 => ⟨S320000x50, .f32⟩
  | 13 => ⟨S320000x50, .f32⟩
  | 14 => ⟨S_, .i32⟩
  | 15 => ⟨S320000, .i32⟩
  | 16 => ⟨S320000, .i1⟩
  | 17 => ⟨S_, .i32⟩
  | 18 => ⟨S320000, .i32⟩
  | 19 => ⟨S320000, .i32⟩
  | 20 => ⟨S320000, .i32⟩
  | 21 => ⟨S320000x1, .i32⟩
  | 22 => ⟨S10000x50, .f32⟩
  | 23 => ⟨S10000x50, .f32⟩
  | 24 => ⟨S10000x50, .f32⟩
  | 25 => ⟨S10000x50, .f32⟩
  | 26 => ⟨S1x50, .f32⟩
  | 27 => ⟨S10000x50, .f32⟩
  | 28 => ⟨S10000x50, .f32⟩
  | 29 => ⟨S10000x50, .f32⟩
  | 30 => ⟨S1x1x50, .f32⟩
  | 31 => ⟨S1x50, .f32⟩
  | 32 => ⟨S10000x50, .f32⟩
  | 33 => ⟨S10000x50, .f32⟩
  | 34 => ⟨S10000x50, .f32⟩
  | 35 => ⟨S1x1x50, .f32⟩
  | 36 => ⟨S1x50, .f32⟩
  | 37 => ⟨S10000x50, .f32⟩
  | 38 => ⟨S10000x50, .f32⟩
  | 39 => ⟨S10000x50, .f32⟩
  | 40 => ⟨S10000x50, .f32⟩
  | 41 => ⟨S_, .f32⟩
  | 42 => ⟨S10000x50, .f32⟩
  | 43 => ⟨S10000x50, .f32⟩
  | 44 => ⟨S_, .f32⟩
  | 45 => ⟨S10000x50, .f32⟩
  | 46 => ⟨S10000x50, .f32⟩
  | 47 => ⟨S10000x50, .f32⟩
  | 48 => ⟨S10000x50, .f32⟩
  | 49 => ⟨S_, .f32⟩
  | 50 => ⟨S10000x20, .f32⟩
  | 51 => ⟨S_, .f32⟩
  | 52 => ⟨S10000x20, .f32⟩
  | 53 => ⟨S1x50x20, .f32⟩
  | 54 => ⟨S50x20, .f32⟩
  | 55 => ⟨S10000x20, .f32⟩
  | 56 => ⟨S1x20x20, .f32⟩
  | 57 => ⟨S20x20, .f32⟩
  | 58 => ⟨S1x20x20, .f32⟩
  | 59 => ⟨S20x20, .f32⟩
  | 60 => ⟨S1x20, .f32⟩
  | 61 => ⟨S20, .f32⟩
  | 62 => ⟨S1x320000, .i32⟩
  | 63 => ⟨S320000, .i32⟩
  | 64 => ⟨S1x320000, .i32⟩
  | 65 => ⟨S320000, .i32⟩
  | 66 => ⟨S_, .f32⟩
  | 67 => ⟨S10000x20, .f32⟩
  | 68 => ⟨S320000x1, .f32⟩
  | 69 => ⟨S_, .i32⟩
  | 70 => ⟨S320000, .i32⟩
  | 71 => ⟨S320000, .i1⟩
  | 72 => ⟨S_, .i32⟩
  | 73 => ⟨S320000, .i32⟩
  | 74 => ⟨S320000, .i32⟩
  | 75 => ⟨S320000, .i32⟩
  | 76 => ⟨S320000x1, .i32⟩
  | 77 => ⟨S320000x20, .f32⟩
  | 78 => ⟨S320000x20, .f32⟩
  | 79 => ⟨S320000x20, .f32⟩
  | 80 => ⟨S_, .i32⟩
  | 81 => ⟨S320000, .i32⟩
  | 82 => ⟨S320000, .i1⟩
  | 83 => ⟨S_, .i32⟩
  | 84 => ⟨S320000, .i32⟩
  | 85 => ⟨S320000, .i32⟩
  | 86 => ⟨S320000, .i32⟩
  | 87 => ⟨S320000x1, .i32⟩
  | 88 => ⟨S10000x20, .f32⟩
  | 89 => ⟨S10000x20, .f32⟩
  | 90 => ⟨S10000x20, .f32⟩
  | 91 => ⟨S10000x20, .f32⟩
  | 92 => ⟨S1x20, .f32⟩
  | 93 => ⟨S10000x20, .f32⟩
  | 94 => ⟨S10000x20, .f32⟩
  | 95 => ⟨S10000x20, .f32⟩
  | 96 => ⟨S1x1x20, .f32⟩
  | 97 => ⟨S1x20, .f32⟩
  | 98 => ⟨S10000x20, .f32⟩
  | 99 => ⟨S10000x20, .f32⟩
  | 100 => ⟨S10000x20, .f32⟩
  | 101 => ⟨S1x1x20, .f32⟩
  | 102 => ⟨S1x20, .f32⟩
  | 103 => ⟨S10000x20, .f32⟩
  | 104 => ⟨S10000x20, .f32⟩
  | 105 => ⟨S10000x20, .f32⟩
  | 106 => ⟨S10000x20, .f32⟩
  | 107 => ⟨S_, .f32⟩
  | 108 => ⟨S10000x20, .f32⟩
  | 109 => ⟨S10000x20, .f32⟩
  | 110 => ⟨S_, .f32⟩
  | 111 => ⟨S10000x20, .f32⟩
  | 112 => ⟨S10000x20, .f32⟩
  | 113 => ⟨S1x50x20, .f32⟩
  | 114 => ⟨S50x20, .f32⟩
  | 115 => ⟨S10000x20, .f32⟩
  | 116 => ⟨S1x20x20, .f32⟩
  | 117 => ⟨S20x20, .f32⟩
  | 118 => ⟨S1x20x20, .f32⟩
  | 119 => ⟨S20x20, .f32⟩
  | 120 => ⟨S1x20, .f32⟩
  | 121 => ⟨S20, .f32⟩
  | 122 => ⟨S1x320000, .i32⟩
  | 123 => ⟨S320000, .i32⟩
  | 124 => ⟨S1x320000, .i32⟩
  | 125 => ⟨S320000, .i32⟩
  | 126 => ⟨S_, .f32⟩
  | 127 => ⟨S10000x20, .f32⟩
  | _ => ⟨S10000x128, .f32⟩

abbrev hbmTy0_3 (i : Nat) : BufTy := match i % 128 with
  | 0 => ⟨S320000x1, .f32⟩
  | 1 => ⟨S_, .i32⟩
  | 2 => ⟨S320000, .i32⟩
  | 3 => ⟨S320000, .i1⟩
  | 4 => ⟨S_, .i32⟩
  | 5 => ⟨S320000, .i32⟩
  | 6 => ⟨S320000, .i32⟩
  | 7 => ⟨S320000, .i32⟩
  | 8 => ⟨S320000x1, .i32⟩
  | 9 => ⟨S320000x20, .f32⟩
  | 10 => ⟨S320000x20, .f32⟩
  | 11 => ⟨S320000x20, .f32⟩
  | 12 => ⟨S_, .i32⟩
  | 13 => ⟨S320000, .i32⟩
  | 14 => ⟨S320000, .i1⟩
  | 15 => ⟨S_, .i32⟩
  | 16 => ⟨S320000, .i32⟩
  | 17 => ⟨S320000, .i32⟩
  | 18 => ⟨S320000, .i32⟩
  | 19 => ⟨S320000x1, .i32⟩
  | 20 => ⟨S10000x20, .f32⟩
  | 21 => ⟨S10000x20, .f32⟩
  | 22 => ⟨S10000x20, .f32⟩
  | 23 => ⟨S10000x20, .f32⟩
  | 24 => ⟨S1x20, .f32⟩
  | 25 => ⟨S10000x20, .f32⟩
  | 26 => ⟨S10000x20, .f32⟩
  | 27 => ⟨S10000x20, .f32⟩
  | 28 => ⟨S1x1x20, .f32⟩
  | 29 => ⟨S1x20, .f32⟩
  | 30 => ⟨S10000x20, .f32⟩
  | 31 => ⟨S10000x20, .f32⟩
  | 32 => ⟨S10000x20, .f32⟩
  | 33 => ⟨S1x1x20, .f32⟩
  | 34 => ⟨S1x20, .f32⟩
  | 35 => ⟨S10000x20, .f32⟩
  | 36 => ⟨S10000x20, .f32⟩
  | 37 => ⟨S10000x20, .f32⟩
  | 38 => ⟨S10000x20, .f32⟩
  | 39 => ⟨S_, .f32⟩
  | 40 => ⟨S10000x20, .f32⟩
  | 41 => ⟨S10000x20, .f32⟩
  | 42 => ⟨S_, .f32⟩
  | 43 => ⟨S10000x20, .f32⟩
  | 44 => ⟨S10000x20, .f32⟩
  | 45 => ⟨S1x50x20, .f32⟩
  | 46 => ⟨S50x20, .f32⟩
  | 47 => ⟨S10000x20, .f32⟩
  | 48 => ⟨S1x20x20, .f32⟩
  | 49 => ⟨S20x20, .f32⟩
  | 50 => ⟨S1x20x20, .f32⟩
  | 51 => ⟨S20x20, .f32⟩
  | 52 => ⟨S1x20, .f32⟩
  | 53 => ⟨S20, .f32⟩
  | 54 => ⟨S1x320000, .i32⟩
  | 55 => ⟨S320000, .i32⟩
  | 56 => ⟨S1x320000, .i32⟩
  | 57 => ⟨S320000, .i32⟩
  | 58 => ⟨S_, .f32⟩
  | 59 => ⟨S10000x20, .f32⟩
  | 60 => ⟨S320000x1, .f32⟩
  | 61 => ⟨S_, .i32⟩
  | 62 => ⟨S320000, .i32⟩
  | 63 => ⟨S320000, .i1⟩
  | 64 => ⟨S_, .i32⟩
  | 65 => ⟨S320000, .i32⟩
  | 66 => ⟨S320000, .i32⟩
  | 67 => ⟨S320000, .i32⟩
  | 68 => ⟨S320000x1, .i32⟩
  | 69 => ⟨S320000x20, .f32⟩
  | 70 => ⟨S320000x20, .f32⟩
  | 71 => ⟨S320000x20, .f32⟩
  | 72 => ⟨S_, .i32⟩
  | 73 => ⟨S320000, .i32⟩
  | 74 => ⟨S320000, .i1⟩
  | 75 => ⟨S_, .i32⟩
  | 76 => ⟨S320000, .i32⟩
  | 77 => ⟨S320000, .i32⟩
  | 78 => ⟨S320000, .i32⟩
  | 79 => ⟨S320000x1, .i32⟩
  | 80 => ⟨S10000x20, .f32⟩
  | 81 => ⟨S10000x20, .f32⟩
  | 82 => ⟨S10000x20, .f32⟩
  | 83 => ⟨S10000x20, .f32⟩
  | 84 => ⟨S1x20, .f32⟩
  | 85 => ⟨S10000x20, .f32⟩
  | 86 => ⟨S10000x20, .f32⟩
  | 87 => ⟨S10000x20, .f32⟩
  | 88 => ⟨S1x1x20, .f32⟩
  | 89 => ⟨S1x20, .f32⟩
  | 90 => ⟨S10000x20, .f32⟩
  | 91 => ⟨S10000x20, .f32⟩
  | 92 => ⟨S10000x20, .f32⟩
  | 93 => ⟨S10000x20, .f32⟩
  | 94 => ⟨S10000x20, .f32⟩
  | 95 => ⟨S10000x20, .f32⟩
  | 96 => ⟨S1x50x20, .f32⟩
  | 97 => ⟨S50x20, .f32⟩
  | 98 => ⟨S10000x20, .f32⟩
  | 99 => ⟨S1x20x20, .f32⟩
  | 100 => ⟨S20x20, .f32⟩
  | 101 => ⟨S1x20x20, .f32⟩
  | 102 => ⟨S20x20, .f32⟩
  | 103 => ⟨S1x20, .f32⟩
  | 104 => ⟨S20, .f32⟩
  | 105 => ⟨S1x320000, .i32⟩
  | 106 => ⟨S320000, .i32⟩
  | 107 => ⟨S1x320000, .i32⟩
  | 108 => ⟨S320000, .i32⟩
  | 109 => ⟨S_, .f32⟩
  | 110 => ⟨S10000x20, .f32⟩
  | 111 => ⟨S320000x1, .f32⟩
  | 112 => ⟨S_, .i32⟩
  | 113 => ⟨S320000, .i32⟩
  | 114 => ⟨S320000, .i1⟩
  | 115 => ⟨S_, .i32⟩
  | 116 => ⟨S320000, .i32⟩
  | 117 => ⟨S320000, .i32⟩
  | 118 => ⟨S320000, .i32⟩
  | 119 => ⟨S320000x1, .i32⟩
  | 120 => ⟨S320000x20, .f32⟩
  | 121 => ⟨S320000x20, .f32⟩
  | 122 => ⟨S320000x20, .f32⟩
  | 123 => ⟨S_, .i32⟩
  | 124 => ⟨S320000, .i32⟩
  | 125 => ⟨S320000, .i1⟩
  | 126 => ⟨S_, .i32⟩
  | 127 => ⟨S320000, .i32⟩
  | _ => ⟨S10000x128, .f32⟩

abbrev hbmTy0_4 (i : Nat) : BufTy := match i % 128 with
  | 0 => ⟨S320000, .i32⟩
  | 1 => ⟨S320000, .i32⟩
  | 2 => ⟨S320000x1, .i32⟩
  | 3 => ⟨S10000x20, .f32⟩
  | 4 => ⟨S10000x20, .f32⟩
  | 5 => ⟨S10000x20, .f32⟩
  | 6 => ⟨S10000x20, .f32⟩
  | 7 => ⟨S1x20, .f32⟩
  | 8 => ⟨S10000x20, .f32⟩
  | 9 => ⟨S10000x20, .f32⟩
  | 10 => ⟨S10000x20, .f32⟩
  | 11 => ⟨S1x1x20, .f32⟩
  | 12 => ⟨S1x20, .f32⟩
  | 13 => ⟨S10000x20, .f32⟩
  | 14 => ⟨S10000x20, .f32⟩
  | 15 => ⟨S10000x20, .f32⟩
  | 16 => ⟨S1x1x20, .f32⟩
  | 17 => ⟨S1x20, .f32⟩
  | 18 => ⟨S10000x20, .f32⟩
  | 19 => ⟨S10000x20, .f32⟩
  | 20 => ⟨S10000x20, .f32⟩
  | 21 => ⟨S10000x20, .f32⟩
  | 22 => ⟨S_, .f32⟩
  | 23 => ⟨S10000x20, .f32⟩
  | 24 => ⟨S10000x20, .f32⟩
  | 25 => ⟨S_, .f32⟩
  | 26 => ⟨S10000x20, .f32⟩
  | 27 => ⟨S10000x20, .f32⟩
  | 28 => ⟨S10000x20, .f32⟩
  | 29 => ⟨S10000x20, .f32⟩
  | 30 => ⟨S_, .f32⟩
  | 31 => ⟨S10000x20, .f32⟩
  | 32 => ⟨S10000x20, .f32⟩
  | 33 => ⟨S10000x1, .f32⟩
  | 34 => ⟨S1x1, .f32⟩
  | 35 => ⟨S10000x1, .f32⟩
  | 36 => ⟨S10000x1, .f32⟩
  | _ => ⟨S10000x128, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S10000x128, .f32⟩

abbrev bufTy : (tb : Table) → Fin (tcTables nBuf tb) → BufTy
  | .hbm, ⟨i, _⟩ => hbmTy i
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_cst : Ref sig .tc := ⟨.hbm, 21, rfl⟩
abbrev main_v4 : Ref sig .tc := ⟨.hbm, 22, rfl⟩
abbrev main_c : Ref sig .tc := ⟨.hbm, 23, rfl⟩
abbrev main_v5 : Ref sig .tc := ⟨.hbm, 24, rfl⟩
abbrev main_v6 : Ref sig .tc := ⟨.hbm, 25, rfl⟩
abbrev main_c_0 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_cst_1 : Ref sig .tc := ⟨.hbm, 32, rfl⟩
abbrev main_v12 : Ref sig .tc := ⟨.hbm, 33, rfl⟩
abbrev main_v13 : Ref sig .tc := ⟨.hbm, 34, rfl⟩
abbrev main_cst_2 : Ref sig .tc := ⟨.hbm, 35, rfl⟩
abbrev main_call0_v0 : Ref sig .tc := ⟨.hbm, 36, rfl⟩
abbrev main_call0_v1 : Ref sig .tc := ⟨.hbm, 37, rfl⟩
abbrev main_v14 : Ref sig .tc := ⟨.hbm, 38, rfl⟩
abbrev main_cst_3 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_cst_4 : Ref sig .tc := ⟨.hbm, 43, rfl⟩
abbrev main_call1_v0 : Ref sig .tc := ⟨.hbm, 44, rfl⟩
abbrev main_call1_v1 : Ref sig .tc := ⟨.hbm, 45, rfl⟩
abbrev main_v18 : Ref sig .tc := ⟨.hbm, 46, rfl⟩
abbrev main_c_5 : Ref sig .tc := ⟨.hbm, 47, rfl⟩
abbrev main_v19 : Ref sig .tc := ⟨.hbm, 48, rfl⟩
abbrev main_v20 : Ref sig .tc := ⟨.hbm, 49, rfl⟩
abbrev main_c_6 : Ref sig .tc := ⟨.hbm, 50, rfl⟩
abbrev main_v21 : Ref sig .tc := ⟨.hbm, 51, rfl⟩
abbrev main_v22 : Ref sig .tc := ⟨.hbm, 52, rfl⟩
abbrev main_v23 : Ref sig .tc := ⟨.hbm, 53, rfl⟩
abbrev main_v24 : Ref sig .tc := ⟨.hbm, 54, rfl⟩
abbrev main_v25 : Ref sig .tc := ⟨.hbm, 55, rfl⟩
abbrev main_v26 : Ref sig .tc := ⟨.hbm, 56, rfl⟩
abbrev main_v27 : Ref sig .tc := ⟨.hbm, 57, rfl⟩
abbrev main_c_7 : Ref sig .tc := ⟨.hbm, 58, rfl⟩
abbrev main_v28 : Ref sig .tc := ⟨.hbm, 59, rfl⟩
abbrev main_v29 : Ref sig .tc := ⟨.hbm, 60, rfl⟩
abbrev main_c_8 : Ref sig .tc := ⟨.hbm, 61, rfl⟩
abbrev main_v30 : Ref sig .tc := ⟨.hbm, 62, rfl⟩
abbrev main_v31 : Ref sig .tc := ⟨.hbm, 63, rfl⟩
abbrev main_v32 : Ref sig .tc := ⟨.hbm, 64, rfl⟩
abbrev main_v33 : Ref sig .tc := ⟨.hbm, 65, rfl⟩
abbrev main_v34 : Ref sig .tc := ⟨.hbm, 66, rfl⟩
abbrev main_v35 : Ref sig .tc := ⟨.hbm, 67, rfl⟩
abbrev main_cst_9 : Ref sig .tc := ⟨.hbm, 68, rfl⟩
abbrev main_v36 : Ref sig .tc := ⟨.hbm, 69, rfl⟩
abbrev main_cst_10 : Ref sig .tc := ⟨.hbm, 70, rfl⟩
abbrev main_v37 : Ref sig .tc := ⟨.hbm, 71, rfl⟩
abbrev main_v38 : Ref sig .tc := ⟨.hbm, 72, rfl⟩
abbrev main_v39 : Ref sig .tc := ⟨.hbm, 73, rfl⟩
abbrev main_v40 : Ref sig .tc := ⟨.hbm, 74, rfl⟩
abbrev main_v41 : Ref sig .tc := ⟨.hbm, 75, rfl⟩
abbrev main_v42 : Ref sig .tc := ⟨.hbm, 76, rfl⟩
abbrev main_v43 : Ref sig .tc := ⟨.hbm, 77, rfl⟩
abbrev main_v44 : Ref sig .tc := ⟨.hbm, 78, rfl⟩
abbrev main_v45 : Ref sig .tc := ⟨.hbm, 79, rfl⟩
abbrev main_v46 : Ref sig .tc := ⟨.hbm, 80, rfl⟩
abbrev main_v47 : Ref sig .tc := ⟨.hbm, 81, rfl⟩
abbrev main_v48 : Ref sig .tc := ⟨.hbm, 82, rfl⟩
abbrev main_v49 : Ref sig .tc := ⟨.hbm, 83, rfl⟩
abbrev main_v50 : Ref sig .tc := ⟨.hbm, 84, rfl⟩
abbrev main_cst_11 : Ref sig .tc := ⟨.hbm, 85, rfl⟩
abbrev main_v51 : Ref sig .tc := ⟨.hbm, 86, rfl⟩
abbrev main_v52 : Ref sig .tc := ⟨.hbm, 87, rfl⟩
abbrev main_c_12 : Ref sig .tc := ⟨.hbm, 88, rfl⟩
abbrev main_v53 : Ref sig .tc := ⟨.hbm, 89, rfl⟩
abbrev main_v54 : Ref sig .tc := ⟨.hbm, 90, rfl⟩
abbrev main_c_13 : Ref sig .tc := ⟨.hbm, 91, rfl⟩
abbrev main_v55 : Ref sig .tc := ⟨.hbm, 92, rfl⟩
abbrev main_v56 : Ref sig .tc := ⟨.hbm, 93, rfl⟩
abbrev main_v57 : Ref sig .tc := ⟨.hbm, 94, rfl⟩
abbrev main_v58 : Ref sig .tc := ⟨.hbm, 95, rfl⟩
abbrev main_v59 : Ref sig .tc := ⟨.hbm, 96, rfl⟩
abbrev main_v60 : Ref sig .tc := ⟨.hbm, 97, rfl⟩
abbrev main_v61 : Ref sig .tc := ⟨.hbm, 98, rfl⟩
abbrev main_c_14 : Ref sig .tc := ⟨.hbm, 99, rfl⟩
abbrev main_v62 : Ref sig .tc := ⟨.hbm, 100, rfl⟩
abbrev main_v63 : Ref sig .tc := ⟨.hbm, 101, rfl⟩
abbrev main_c_15 : Ref sig .tc := ⟨.hbm, 102, rfl⟩
abbrev main_v64 : Ref sig .tc := ⟨.hbm, 103, rfl⟩
abbrev main_v65 : Ref sig .tc := ⟨.hbm, 104, rfl⟩
abbrev main_v66 : Ref sig .tc := ⟨.hbm, 105, rfl⟩
abbrev main_v67 : Ref sig .tc := ⟨.hbm, 106, rfl⟩
abbrev main_v68 : Ref sig .tc := ⟨.hbm, 107, rfl⟩
abbrev main_v69 : Ref sig .tc := ⟨.hbm, 108, rfl⟩
abbrev main_v70 : Ref sig .tc := ⟨.hbm, 109, rfl⟩
abbrev main_v71 : Ref sig .tc := ⟨.hbm, 110, rfl⟩
abbrev main_v72 : Ref sig .tc := ⟨.hbm, 111, rfl⟩
abbrev main_v73 : Ref sig .tc := ⟨.hbm, 112, rfl⟩
abbrev main_v74 : Ref sig .tc := ⟨.hbm, 113, rfl⟩
abbrev main_v75 : Ref sig .tc := ⟨.hbm, 114, rfl⟩
abbrev main_v76 : Ref sig .tc := ⟨.hbm, 115, rfl⟩
abbrev main_v77 : Ref sig .tc := ⟨.hbm, 116, rfl⟩
abbrev main_v78 : Ref sig .tc := ⟨.hbm, 117, rfl⟩
abbrev main_v79 : Ref sig .tc := ⟨.hbm, 118, rfl⟩
abbrev main_v80 : Ref sig .tc := ⟨.hbm, 119, rfl⟩
abbrev main_v81 : Ref sig .tc := ⟨.hbm, 120, rfl⟩
abbrev main_v82 : Ref sig .tc := ⟨.hbm, 121, rfl⟩
abbrev main_v83 : Ref sig .tc := ⟨.hbm, 122, rfl⟩
abbrev main_v84 : Ref sig .tc := ⟨.hbm, 123, rfl⟩
abbrev main_v85 : Ref sig .tc := ⟨.hbm, 124, rfl⟩
abbrev main_v86 : Ref sig .tc := ⟨.hbm, 125, rfl⟩
abbrev main_cst_16 : Ref sig .tc := ⟨.hbm, 126, rfl⟩
abbrev main_v87 : Ref sig .tc := ⟨.hbm, 127, rfl⟩
abbrev main_v88 : Ref sig .tc := ⟨.hbm, 128, rfl⟩
abbrev main_cst_17 : Ref sig .tc := ⟨.hbm, 129, rfl⟩
abbrev main_v89 : Ref sig .tc := ⟨.hbm, 130, rfl⟩
abbrev main_v90 : Ref sig .tc := ⟨.hbm, 131, rfl⟩
abbrev main_v91 : Ref sig .tc := ⟨.hbm, 132, rfl⟩
abbrev main_v92 : Ref sig .tc := ⟨.hbm, 133, rfl⟩
abbrev main_v93 : Ref sig .tc := ⟨.hbm, 134, rfl⟩
abbrev main_v94 : Ref sig .tc := ⟨.hbm, 135, rfl⟩
abbrev main_v95 : Ref sig .tc := ⟨.hbm, 136, rfl⟩
abbrev main_v96 : Ref sig .tc := ⟨.hbm, 137, rfl⟩
abbrev main_v97 : Ref sig .tc := ⟨.hbm, 138, rfl⟩
abbrev main_v98 : Ref sig .tc := ⟨.hbm, 139, rfl⟩
abbrev main_v99 : Ref sig .tc := ⟨.hbm, 140, rfl⟩
abbrev main_v100 : Ref sig .tc := ⟨.hbm, 141, rfl⟩
abbrev main_v101 : Ref sig .tc := ⟨.hbm, 142, rfl⟩
abbrev main_v102 : Ref sig .tc := ⟨.hbm, 143, rfl⟩
abbrev main_v103 : Ref sig .tc := ⟨.hbm, 144, rfl⟩
abbrev main_cst_18 : Ref sig .tc := ⟨.hbm, 145, rfl⟩
abbrev main_v104 : Ref sig .tc := ⟨.hbm, 146, rfl⟩
abbrev main_v105 : Ref sig .tc := ⟨.hbm, 147, rfl⟩
abbrev main_c_19 : Ref sig .tc := ⟨.hbm, 148, rfl⟩
abbrev main_v106 : Ref sig .tc := ⟨.hbm, 149, rfl⟩
abbrev main_v107 : Ref sig .tc := ⟨.hbm, 150, rfl⟩
abbrev main_c_20 : Ref sig .tc := ⟨.hbm, 151, rfl⟩
abbrev main_v108 : Ref sig .tc := ⟨.hbm, 152, rfl⟩
abbrev main_v109 : Ref sig .tc := ⟨.hbm, 153, rfl⟩
abbrev main_v110 : Ref sig .tc := ⟨.hbm, 154, rfl⟩
abbrev main_v111 : Ref sig .tc := ⟨.hbm, 155, rfl⟩
abbrev main_v112 : Ref sig .tc := ⟨.hbm, 156, rfl⟩
abbrev main_v113 : Ref sig .tc := ⟨.hbm, 157, rfl⟩
abbrev main_v114 : Ref sig .tc := ⟨.hbm, 158, rfl⟩
abbrev main_c_21 : Ref sig .tc := ⟨.hbm, 159, rfl⟩
abbrev main_v115 : Ref sig .tc := ⟨.hbm, 160, rfl⟩
abbrev main_v116 : Ref sig .tc := ⟨.hbm, 161, rfl⟩
abbrev main_c_22 : Ref sig .tc := ⟨.hbm, 162, rfl⟩
abbrev main_v117 : Ref sig .tc := ⟨.hbm, 163, rfl⟩
abbrev main_v118 : Ref sig .tc := ⟨.hbm, 164, rfl⟩
abbrev main_v119 : Ref sig .tc := ⟨.hbm, 165, rfl⟩
abbrev main_v120 : Ref sig .tc := ⟨.hbm, 166, rfl⟩
abbrev main_v121 : Ref sig .tc := ⟨.hbm, 167, rfl⟩
abbrev main_v122 : Ref sig .tc := ⟨.hbm, 168, rfl⟩
abbrev main_v123 : Ref sig .tc := ⟨.hbm, 169, rfl⟩
abbrev main_v124 : Ref sig .tc := ⟨.hbm, 170, rfl⟩
abbrev main_v125 : Ref sig .tc := ⟨.hbm, 171, rfl⟩
abbrev main_v126 : Ref sig .tc := ⟨.hbm, 172, rfl⟩
abbrev main_v127 : Ref sig .tc := ⟨.hbm, 173, rfl⟩
abbrev main_v128 : Ref sig .tc := ⟨.hbm, 174, rfl⟩
abbrev main_v129 : Ref sig .tc := ⟨.hbm, 175, rfl⟩
abbrev main_v130 : Ref sig .tc := ⟨.hbm, 176, rfl⟩
abbrev main_v131 : Ref sig .tc := ⟨.hbm, 177, rfl⟩
abbrev main_v132 : Ref sig .tc := ⟨.hbm, 178, rfl⟩
abbrev main_v133 : Ref sig .tc := ⟨.hbm, 179, rfl⟩
abbrev main_v134 : Ref sig .tc := ⟨.hbm, 180, rfl⟩
abbrev main_v135 : Ref sig .tc := ⟨.hbm, 181, rfl⟩
abbrev main_v136 : Ref sig .tc := ⟨.hbm, 182, rfl⟩
abbrev main_v137 : Ref sig .tc := ⟨.hbm, 183, rfl⟩
abbrev main_v138 : Ref sig .tc := ⟨.hbm, 184, rfl⟩
abbrev main_v139 : Ref sig .tc := ⟨.hbm, 185, rfl⟩
abbrev main_cst_23 : Ref sig .tc := ⟨.hbm, 186, rfl⟩
abbrev main_v140 : Ref sig .tc := ⟨.hbm, 187, rfl⟩
abbrev main_v141 : Ref sig .tc := ⟨.hbm, 188, rfl⟩
abbrev main_cst_24 : Ref sig .tc := ⟨.hbm, 189, rfl⟩
abbrev main_v142 : Ref sig .tc := ⟨.hbm, 190, rfl⟩
abbrev main_v143 : Ref sig .tc := ⟨.hbm, 191, rfl⟩
abbrev main_v144 : Ref sig .tc := ⟨.hbm, 192, rfl⟩
abbrev main_v145 : Ref sig .tc := ⟨.hbm, 193, rfl⟩
abbrev main_v146 : Ref sig .tc := ⟨.hbm, 194, rfl⟩
abbrev main_v147 : Ref sig .tc := ⟨.hbm, 195, rfl⟩
abbrev main_v148 : Ref sig .tc := ⟨.hbm, 196, rfl⟩
abbrev main_v149 : Ref sig .tc := ⟨.hbm, 197, rfl⟩
abbrev main_v150 : Ref sig .tc := ⟨.hbm, 198, rfl⟩
abbrev main_v151 : Ref sig .tc := ⟨.hbm, 199, rfl⟩
abbrev main_v152 : Ref sig .tc := ⟨.hbm, 200, rfl⟩
abbrev main_v153 : Ref sig .tc := ⟨.hbm, 201, rfl⟩
abbrev main_v154 : Ref sig .tc := ⟨.hbm, 202, rfl⟩
abbrev main_v155 : Ref sig .tc := ⟨.hbm, 203, rfl⟩
abbrev main_v156 : Ref sig .tc := ⟨.hbm, 204, rfl⟩
abbrev main_cst_25 : Ref sig .tc := ⟨.hbm, 205, rfl⟩
abbrev main_v157 : Ref sig .tc := ⟨.hbm, 206, rfl⟩
abbrev main_v158 : Ref sig .tc := ⟨.hbm, 207, rfl⟩
abbrev main_c_26 : Ref sig .tc := ⟨.hbm, 208, rfl⟩
abbrev main_v159 : Ref sig .tc := ⟨.hbm, 209, rfl⟩
abbrev main_v160 : Ref sig .tc := ⟨.hbm, 210, rfl⟩
abbrev main_c_27 : Ref sig .tc := ⟨.hbm, 211, rfl⟩
abbrev main_v161 : Ref sig .tc := ⟨.hbm, 212, rfl⟩
abbrev main_v162 : Ref sig .tc := ⟨.hbm, 213, rfl⟩
abbrev main_v163 : Ref sig .tc := ⟨.hbm, 214, rfl⟩
abbrev main_v164 : Ref sig .tc := ⟨.hbm, 215, rfl⟩
abbrev main_v165 : Ref sig .tc := ⟨.hbm, 216, rfl⟩
abbrev main_v166 : Ref sig .tc := ⟨.hbm, 217, rfl⟩
abbrev main_v167 : Ref sig .tc := ⟨.hbm, 218, rfl⟩
abbrev main_c_28 : Ref sig .tc := ⟨.hbm, 219, rfl⟩
abbrev main_v168 : Ref sig .tc := ⟨.hbm, 220, rfl⟩
abbrev main_v169 : Ref sig .tc := ⟨.hbm, 221, rfl⟩
abbrev main_c_29 : Ref sig .tc := ⟨.hbm, 222, rfl⟩
abbrev main_v170 : Ref sig .tc := ⟨.hbm, 223, rfl⟩
abbrev main_v171 : Ref sig .tc := ⟨.hbm, 224, rfl⟩
abbrev main_v172 : Ref sig .tc := ⟨.hbm, 225, rfl⟩
abbrev main_v173 : Ref sig .tc := ⟨.hbm, 226, rfl⟩
abbrev main_v174 : Ref sig .tc := ⟨.hbm, 227, rfl⟩
abbrev main_v175 : Ref sig .tc := ⟨.hbm, 228, rfl⟩
abbrev main_v176 : Ref sig .tc := ⟨.hbm, 229, rfl⟩
abbrev main_v177 : Ref sig .tc := ⟨.hbm, 230, rfl⟩
abbrev main_v178 : Ref sig .tc := ⟨.hbm, 231, rfl⟩
abbrev main_v179 : Ref sig .tc := ⟨.hbm, 232, rfl⟩
abbrev main_v180 : Ref sig .tc := ⟨.hbm, 233, rfl⟩
abbrev main_v181 : Ref sig .tc := ⟨.hbm, 234, rfl⟩
abbrev main_v182 : Ref sig .tc := ⟨.hbm, 235, rfl⟩
abbrev main_v183 : Ref sig .tc := ⟨.hbm, 236, rfl⟩
abbrev main_v184 : Ref sig .tc := ⟨.hbm, 237, rfl⟩
abbrev main_v185 : Ref sig .tc := ⟨.hbm, 238, rfl⟩
abbrev main_v186 : Ref sig .tc := ⟨.hbm, 239, rfl⟩
abbrev main_v187 : Ref sig .tc := ⟨.hbm, 240, rfl⟩
abbrev main_v188 : Ref sig .tc := ⟨.hbm, 241, rfl⟩
abbrev main_v189 : Ref sig .tc := ⟨.hbm, 242, rfl⟩
abbrev main_v190 : Ref sig .tc := ⟨.hbm, 243, rfl⟩
abbrev main_v191 : Ref sig .tc := ⟨.hbm, 244, rfl⟩
abbrev main_v192 : Ref sig .tc := ⟨.hbm, 245, rfl⟩
abbrev main_v193 : Ref sig .tc := ⟨.hbm, 246, rfl⟩
abbrev main_v194 : Ref sig .tc := ⟨.hbm, 247, rfl⟩
abbrev main_v195 : Ref sig .tc := ⟨.hbm, 248, rfl⟩
abbrev main_v196 : Ref sig .tc := ⟨.hbm, 249, rfl⟩
abbrev main_v197 : Ref sig .tc := ⟨.hbm, 250, rfl⟩
abbrev main_v198 : Ref sig .tc := ⟨.hbm, 251, rfl⟩
abbrev main_v199 : Ref sig .tc := ⟨.hbm, 252, rfl⟩
abbrev main_v200 : Ref sig .tc := ⟨.hbm, 253, rfl⟩
abbrev main_v201 : Ref sig .tc := ⟨.hbm, 254, rfl⟩
abbrev main_v202 : Ref sig .tc := ⟨.hbm, 255, rfl⟩
abbrev main_cst_30 : Ref sig .tc := ⟨.hbm, 256, rfl⟩
abbrev main_v203 : Ref sig .tc := ⟨.hbm, 257, rfl⟩
abbrev main_v204 : Ref sig .tc := ⟨.hbm, 258, rfl⟩
abbrev main_c_31 : Ref sig .tc := ⟨.hbm, 259, rfl⟩
abbrev main_v205 : Ref sig .tc := ⟨.hbm, 260, rfl⟩
abbrev main_v206 : Ref sig .tc := ⟨.hbm, 261, rfl⟩
abbrev main_c_32 : Ref sig .tc := ⟨.hbm, 262, rfl⟩
abbrev main_v207 : Ref sig .tc := ⟨.hbm, 263, rfl⟩
abbrev main_v208 : Ref sig .tc := ⟨.hbm, 264, rfl⟩
abbrev main_v209 : Ref sig .tc := ⟨.hbm, 265, rfl⟩
abbrev main_v210 : Ref sig .tc := ⟨.hbm, 266, rfl⟩
abbrev main_v211 : Ref sig .tc := ⟨.hbm, 267, rfl⟩
abbrev main_v212 : Ref sig .tc := ⟨.hbm, 268, rfl⟩
abbrev main_v213 : Ref sig .tc := ⟨.hbm, 269, rfl⟩
abbrev main_c_33 : Ref sig .tc := ⟨.hbm, 270, rfl⟩
abbrev main_v214 : Ref sig .tc := ⟨.hbm, 271, rfl⟩
abbrev main_v215 : Ref sig .tc := ⟨.hbm, 272, rfl⟩
abbrev main_c_34 : Ref sig .tc := ⟨.hbm, 273, rfl⟩
abbrev main_v216 : Ref sig .tc := ⟨.hbm, 274, rfl⟩
abbrev main_v217 : Ref sig .tc := ⟨.hbm, 275, rfl⟩
abbrev main_v218 : Ref sig .tc := ⟨.hbm, 276, rfl⟩
abbrev main_v219 : Ref sig .tc := ⟨.hbm, 277, rfl⟩
abbrev main_v220 : Ref sig .tc := ⟨.hbm, 278, rfl⟩
abbrev main_v221 : Ref sig .tc := ⟨.hbm, 279, rfl⟩
abbrev main_v222 : Ref sig .tc := ⟨.hbm, 280, rfl⟩
abbrev main_v223 : Ref sig .tc := ⟨.hbm, 281, rfl⟩
abbrev main_v224 : Ref sig .tc := ⟨.hbm, 282, rfl⟩
abbrev main_v225 : Ref sig .tc := ⟨.hbm, 283, rfl⟩
abbrev main_v226 : Ref sig .tc := ⟨.hbm, 284, rfl⟩
abbrev main_v227 : Ref sig .tc := ⟨.hbm, 285, rfl⟩
abbrev main_v228 : Ref sig .tc := ⟨.hbm, 286, rfl⟩
abbrev main_v229 : Ref sig .tc := ⟨.hbm, 287, rfl⟩
abbrev main_v230 : Ref sig .tc := ⟨.hbm, 288, rfl⟩
abbrev main_v231 : Ref sig .tc := ⟨.hbm, 289, rfl⟩
abbrev main_v232 : Ref sig .tc := ⟨.hbm, 290, rfl⟩
abbrev main_v233 : Ref sig .tc := ⟨.hbm, 291, rfl⟩
abbrev main_v234 : Ref sig .tc := ⟨.hbm, 292, rfl⟩
abbrev main_v235 : Ref sig .tc := ⟨.hbm, 293, rfl⟩
abbrev main_v236 : Ref sig .tc := ⟨.hbm, 294, rfl⟩
abbrev main_v237 : Ref sig .tc := ⟨.hbm, 295, rfl⟩
abbrev main_v238 : Ref sig .tc := ⟨.hbm, 296, rfl⟩
abbrev main_cst_35 : Ref sig .tc := ⟨.hbm, 297, rfl⟩
abbrev main_v239 : Ref sig .tc := ⟨.hbm, 298, rfl⟩
abbrev main_v240 : Ref sig .tc := ⟨.hbm, 299, rfl⟩
abbrev main_cst_36 : Ref sig .tc := ⟨.hbm, 300, rfl⟩
abbrev main_v241 : Ref sig .tc := ⟨.hbm, 301, rfl⟩
abbrev main_v242 : Ref sig .tc := ⟨.hbm, 302, rfl⟩
abbrev main_v243 : Ref sig .tc := ⟨.hbm, 303, rfl⟩
abbrev main_v244 : Ref sig .tc := ⟨.hbm, 304, rfl⟩
abbrev main_cst_37 : Ref sig .tc := ⟨.hbm, 305, rfl⟩
abbrev main_v245 : Ref sig .tc := ⟨.hbm, 306, rfl⟩
abbrev main_cst_38 : Ref sig .tc := ⟨.hbm, 307, rfl⟩
abbrev main_v246 : Ref sig .tc := ⟨.hbm, 308, rfl⟩
abbrev main_v247 : Ref sig .tc := ⟨.hbm, 309, rfl⟩
abbrev main_v248 : Ref sig .tc := ⟨.hbm, 310, rfl⟩
abbrev main_v249 : Ref sig .tc := ⟨.hbm, 311, rfl⟩
abbrev main_v250 : Ref sig .tc := ⟨.hbm, 312, rfl⟩
abbrev main_v251 : Ref sig .tc := ⟨.hbm, 313, rfl⟩
abbrev main_v252 : Ref sig .tc := ⟨.hbm, 314, rfl⟩
abbrev main_v253 : Ref sig .tc := ⟨.hbm, 315, rfl⟩
abbrev main_v254 : Ref sig .tc := ⟨.hbm, 316, rfl⟩
abbrev main_v255 : Ref sig .tc := ⟨.hbm, 317, rfl⟩
abbrev main_v256 : Ref sig .tc := ⟨.hbm, 318, rfl⟩
abbrev main_v257 : Ref sig .tc := ⟨.hbm, 319, rfl⟩
abbrev main_v258 : Ref sig .tc := ⟨.hbm, 320, rfl⟩
abbrev main_v259 : Ref sig .tc := ⟨.hbm, 321, rfl⟩
abbrev main_cst_39 : Ref sig .tc := ⟨.hbm, 322, rfl⟩
abbrev main_v260 : Ref sig .tc := ⟨.hbm, 323, rfl⟩
abbrev main_v261 : Ref sig .tc := ⟨.hbm, 324, rfl⟩
abbrev main_c_40 : Ref sig .tc := ⟨.hbm, 325, rfl⟩
abbrev main_v262 : Ref sig .tc := ⟨.hbm, 326, rfl⟩
abbrev main_v263 : Ref sig .tc := ⟨.hbm, 327, rfl⟩
abbrev main_c_41 : Ref sig .tc := ⟨.hbm, 328, rfl⟩
abbrev main_v264 : Ref sig .tc := ⟨.hbm, 329, rfl⟩
abbrev main_v265 : Ref sig .tc := ⟨.hbm, 330, rfl⟩
abbrev main_v266 : Ref sig .tc := ⟨.hbm, 331, rfl⟩
abbrev main_v267 : Ref sig .tc := ⟨.hbm, 332, rfl⟩
abbrev main_v268 : Ref sig .tc := ⟨.hbm, 333, rfl⟩
abbrev main_v269 : Ref sig .tc := ⟨.hbm, 334, rfl⟩
abbrev main_v270 : Ref sig .tc := ⟨.hbm, 335, rfl⟩
abbrev main_c_42 : Ref sig .tc := ⟨.hbm, 336, rfl⟩
abbrev main_v271 : Ref sig .tc := ⟨.hbm, 337, rfl⟩
abbrev main_v272 : Ref sig .tc := ⟨.hbm, 338, rfl⟩
abbrev main_c_43 : Ref sig .tc := ⟨.hbm, 339, rfl⟩
abbrev main_v273 : Ref sig .tc := ⟨.hbm, 340, rfl⟩
abbrev main_v274 : Ref sig .tc := ⟨.hbm, 341, rfl⟩
abbrev main_v275 : Ref sig .tc := ⟨.hbm, 342, rfl⟩
abbrev main_v276 : Ref sig .tc := ⟨.hbm, 343, rfl⟩
abbrev main_v277 : Ref sig .tc := ⟨.hbm, 344, rfl⟩
abbrev main_v278 : Ref sig .tc := ⟨.hbm, 345, rfl⟩
abbrev main_v279 : Ref sig .tc := ⟨.hbm, 346, rfl⟩
abbrev main_v280 : Ref sig .tc := ⟨.hbm, 347, rfl⟩
abbrev main_v281 : Ref sig .tc := ⟨.hbm, 348, rfl⟩
abbrev main_v282 : Ref sig .tc := ⟨.hbm, 349, rfl⟩
abbrev main_v283 : Ref sig .tc := ⟨.hbm, 350, rfl⟩
abbrev main_v284 : Ref sig .tc := ⟨.hbm, 351, rfl⟩
abbrev main_v285 : Ref sig .tc := ⟨.hbm, 352, rfl⟩
abbrev main_v286 : Ref sig .tc := ⟨.hbm, 353, rfl⟩
abbrev main_v287 : Ref sig .tc := ⟨.hbm, 354, rfl⟩
abbrev main_v288 : Ref sig .tc := ⟨.hbm, 355, rfl⟩
abbrev main_v289 : Ref sig .tc := ⟨.hbm, 356, rfl⟩
abbrev main_v290 : Ref sig .tc := ⟨.hbm, 357, rfl⟩
abbrev main_v291 : Ref sig .tc := ⟨.hbm, 358, rfl⟩
abbrev main_v292 : Ref sig .tc := ⟨.hbm, 359, rfl⟩
abbrev main_v293 : Ref sig .tc := ⟨.hbm, 360, rfl⟩
abbrev main_v294 : Ref sig .tc := ⟨.hbm, 361, rfl⟩
abbrev main_v295 : Ref sig .tc := ⟨.hbm, 362, rfl⟩
abbrev main_cst_44 : Ref sig .tc := ⟨.hbm, 363, rfl⟩
abbrev main_v296 : Ref sig .tc := ⟨.hbm, 364, rfl⟩
abbrev main_v297 : Ref sig .tc := ⟨.hbm, 365, rfl⟩
abbrev main_cst_45 : Ref sig .tc := ⟨.hbm, 366, rfl⟩
abbrev main_v298 : Ref sig .tc := ⟨.hbm, 367, rfl⟩
abbrev main_v299 : Ref sig .tc := ⟨.hbm, 368, rfl⟩
abbrev main_v300 : Ref sig .tc := ⟨.hbm, 369, rfl⟩
abbrev main_v301 : Ref sig .tc := ⟨.hbm, 370, rfl⟩
abbrev main_v302 : Ref sig .tc := ⟨.hbm, 371, rfl⟩
abbrev main_v303 : Ref sig .tc := ⟨.hbm, 372, rfl⟩
abbrev main_v304 : Ref sig .tc := ⟨.hbm, 373, rfl⟩
abbrev main_v305 : Ref sig .tc := ⟨.hbm, 374, rfl⟩
abbrev main_v306 : Ref sig .tc := ⟨.hbm, 375, rfl⟩
abbrev main_v307 : Ref sig .tc := ⟨.hbm, 376, rfl⟩
abbrev main_v308 : Ref sig .tc := ⟨.hbm, 377, rfl⟩
abbrev main_v309 : Ref sig .tc := ⟨.hbm, 378, rfl⟩
abbrev main_v310 : Ref sig .tc := ⟨.hbm, 379, rfl⟩
abbrev main_v311 : Ref sig .tc := ⟨.hbm, 380, rfl⟩
abbrev main_v312 : Ref sig .tc := ⟨.hbm, 381, rfl⟩
abbrev main_cst_46 : Ref sig .tc := ⟨.hbm, 382, rfl⟩
abbrev main_v313 : Ref sig .tc := ⟨.hbm, 383, rfl⟩
abbrev main_v314 : Ref sig .tc := ⟨.hbm, 384, rfl⟩
abbrev main_c_47 : Ref sig .tc := ⟨.hbm, 385, rfl⟩
abbrev main_v315 : Ref sig .tc := ⟨.hbm, 386, rfl⟩
abbrev main_v316 : Ref sig .tc := ⟨.hbm, 387, rfl⟩
abbrev main_c_48 : Ref sig .tc := ⟨.hbm, 388, rfl⟩
abbrev main_v317 : Ref sig .tc := ⟨.hbm, 389, rfl⟩
abbrev main_v318 : Ref sig .tc := ⟨.hbm, 390, rfl⟩
abbrev main_v319 : Ref sig .tc := ⟨.hbm, 391, rfl⟩
abbrev main_v320 : Ref sig .tc := ⟨.hbm, 392, rfl⟩
abbrev main_v321 : Ref sig .tc := ⟨.hbm, 393, rfl⟩
abbrev main_v322 : Ref sig .tc := ⟨.hbm, 394, rfl⟩
abbrev main_v323 : Ref sig .tc := ⟨.hbm, 395, rfl⟩
abbrev main_c_49 : Ref sig .tc := ⟨.hbm, 396, rfl⟩
abbrev main_v324 : Ref sig .tc := ⟨.hbm, 397, rfl⟩
abbrev main_v325 : Ref sig .tc := ⟨.hbm, 398, rfl⟩
abbrev main_c_50 : Ref sig .tc := ⟨.hbm, 399, rfl⟩
abbrev main_v326 : Ref sig .tc := ⟨.hbm, 400, rfl⟩
abbrev main_v327 : Ref sig .tc := ⟨.hbm, 401, rfl⟩
abbrev main_v328 : Ref sig .tc := ⟨.hbm, 402, rfl⟩
abbrev main_v329 : Ref sig .tc := ⟨.hbm, 403, rfl⟩
abbrev main_v330 : Ref sig .tc := ⟨.hbm, 404, rfl⟩
abbrev main_v331 : Ref sig .tc := ⟨.hbm, 405, rfl⟩
abbrev main_v332 : Ref sig .tc := ⟨.hbm, 406, rfl⟩
abbrev main_v333 : Ref sig .tc := ⟨.hbm, 407, rfl⟩
abbrev main_v334 : Ref sig .tc := ⟨.hbm, 408, rfl⟩
abbrev main_v335 : Ref sig .tc := ⟨.hbm, 409, rfl⟩
abbrev main_v336 : Ref sig .tc := ⟨.hbm, 410, rfl⟩
abbrev main_v337 : Ref sig .tc := ⟨.hbm, 411, rfl⟩
abbrev main_v338 : Ref sig .tc := ⟨.hbm, 412, rfl⟩
abbrev main_v339 : Ref sig .tc := ⟨.hbm, 413, rfl⟩
abbrev main_v340 : Ref sig .tc := ⟨.hbm, 414, rfl⟩
abbrev main_v341 : Ref sig .tc := ⟨.hbm, 415, rfl⟩
abbrev main_v342 : Ref sig .tc := ⟨.hbm, 416, rfl⟩
abbrev main_v343 : Ref sig .tc := ⟨.hbm, 417, rfl⟩
abbrev main_v344 : Ref sig .tc := ⟨.hbm, 418, rfl⟩
abbrev main_v345 : Ref sig .tc := ⟨.hbm, 419, rfl⟩
abbrev main_v346 : Ref sig .tc := ⟨.hbm, 420, rfl⟩
abbrev main_v347 : Ref sig .tc := ⟨.hbm, 421, rfl⟩
abbrev main_v348 : Ref sig .tc := ⟨.hbm, 422, rfl⟩
abbrev main_cst_51 : Ref sig .tc := ⟨.hbm, 423, rfl⟩
abbrev main_v349 : Ref sig .tc := ⟨.hbm, 424, rfl⟩
abbrev main_v350 : Ref sig .tc := ⟨.hbm, 425, rfl⟩
abbrev main_cst_52 : Ref sig .tc := ⟨.hbm, 426, rfl⟩
abbrev main_v351 : Ref sig .tc := ⟨.hbm, 427, rfl⟩
abbrev main_v352 : Ref sig .tc := ⟨.hbm, 428, rfl⟩
abbrev main_v353 : Ref sig .tc := ⟨.hbm, 429, rfl⟩
abbrev main_v354 : Ref sig .tc := ⟨.hbm, 430, rfl⟩
abbrev main_v355 : Ref sig .tc := ⟨.hbm, 431, rfl⟩
abbrev main_v356 : Ref sig .tc := ⟨.hbm, 432, rfl⟩
abbrev main_v357 : Ref sig .tc := ⟨.hbm, 433, rfl⟩
abbrev main_v358 : Ref sig .tc := ⟨.hbm, 434, rfl⟩
abbrev main_v359 : Ref sig .tc := ⟨.hbm, 435, rfl⟩
abbrev main_v360 : Ref sig .tc := ⟨.hbm, 436, rfl⟩
abbrev main_v361 : Ref sig .tc := ⟨.hbm, 437, rfl⟩
abbrev main_v362 : Ref sig .tc := ⟨.hbm, 438, rfl⟩
abbrev main_v363 : Ref sig .tc := ⟨.hbm, 439, rfl⟩
abbrev main_v364 : Ref sig .tc := ⟨.hbm, 440, rfl⟩
abbrev main_v365 : Ref sig .tc := ⟨.hbm, 441, rfl⟩
abbrev main_cst_53 : Ref sig .tc := ⟨.hbm, 442, rfl⟩
abbrev main_v366 : Ref sig .tc := ⟨.hbm, 443, rfl⟩
abbrev main_v367 : Ref sig .tc := ⟨.hbm, 444, rfl⟩
abbrev main_c_54 : Ref sig .tc := ⟨.hbm, 445, rfl⟩
abbrev main_v368 : Ref sig .tc := ⟨.hbm, 446, rfl⟩
abbrev main_v369 : Ref sig .tc := ⟨.hbm, 447, rfl⟩
abbrev main_c_55 : Ref sig .tc := ⟨.hbm, 448, rfl⟩
abbrev main_v370 : Ref sig .tc := ⟨.hbm, 449, rfl⟩
abbrev main_v371 : Ref sig .tc := ⟨.hbm, 450, rfl⟩
abbrev main_v372 : Ref sig .tc := ⟨.hbm, 451, rfl⟩
abbrev main_v373 : Ref sig .tc := ⟨.hbm, 452, rfl⟩
abbrev main_v374 : Ref sig .tc := ⟨.hbm, 453, rfl⟩
abbrev main_v375 : Ref sig .tc := ⟨.hbm, 454, rfl⟩
abbrev main_v376 : Ref sig .tc := ⟨.hbm, 455, rfl⟩
abbrev main_c_56 : Ref sig .tc := ⟨.hbm, 456, rfl⟩
abbrev main_v377 : Ref sig .tc := ⟨.hbm, 457, rfl⟩
abbrev main_v378 : Ref sig .tc := ⟨.hbm, 458, rfl⟩
abbrev main_c_57 : Ref sig .tc := ⟨.hbm, 459, rfl⟩
abbrev main_v379 : Ref sig .tc := ⟨.hbm, 460, rfl⟩
abbrev main_v380 : Ref sig .tc := ⟨.hbm, 461, rfl⟩
abbrev main_v381 : Ref sig .tc := ⟨.hbm, 462, rfl⟩
abbrev main_v382 : Ref sig .tc := ⟨.hbm, 463, rfl⟩
abbrev main_v383 : Ref sig .tc := ⟨.hbm, 464, rfl⟩
abbrev main_v384 : Ref sig .tc := ⟨.hbm, 465, rfl⟩
abbrev main_v385 : Ref sig .tc := ⟨.hbm, 466, rfl⟩
abbrev main_v386 : Ref sig .tc := ⟨.hbm, 467, rfl⟩
abbrev main_v387 : Ref sig .tc := ⟨.hbm, 468, rfl⟩
abbrev main_v388 : Ref sig .tc := ⟨.hbm, 469, rfl⟩
abbrev main_v389 : Ref sig .tc := ⟨.hbm, 470, rfl⟩
abbrev main_v390 : Ref sig .tc := ⟨.hbm, 471, rfl⟩
abbrev main_v391 : Ref sig .tc := ⟨.hbm, 472, rfl⟩
abbrev main_v392 : Ref sig .tc := ⟨.hbm, 473, rfl⟩
abbrev main_v393 : Ref sig .tc := ⟨.hbm, 474, rfl⟩
abbrev main_v394 : Ref sig .tc := ⟨.hbm, 475, rfl⟩
abbrev main_v395 : Ref sig .tc := ⟨.hbm, 476, rfl⟩
abbrev main_v396 : Ref sig .tc := ⟨.hbm, 477, rfl⟩
abbrev main_v397 : Ref sig .tc := ⟨.hbm, 478, rfl⟩
abbrev main_v398 : Ref sig .tc := ⟨.hbm, 479, rfl⟩
abbrev main_v399 : Ref sig .tc := ⟨.hbm, 480, rfl⟩
abbrev main_v400 : Ref sig .tc := ⟨.hbm, 481, rfl⟩
abbrev main_v401 : Ref sig .tc := ⟨.hbm, 482, rfl⟩
abbrev main_v402 : Ref sig .tc := ⟨.hbm, 483, rfl⟩
abbrev main_v403 : Ref sig .tc := ⟨.hbm, 484, rfl⟩
abbrev main_v404 : Ref sig .tc := ⟨.hbm, 485, rfl⟩
abbrev main_v405 : Ref sig .tc := ⟨.hbm, 486, rfl⟩
abbrev main_v406 : Ref sig .tc := ⟨.hbm, 487, rfl⟩
abbrev main_v407 : Ref sig .tc := ⟨.hbm, 488, rfl⟩
abbrev main_v408 : Ref sig .tc := ⟨.hbm, 489, rfl⟩
abbrev main_v409 : Ref sig .tc := ⟨.hbm, 490, rfl⟩
abbrev main_v410 : Ref sig .tc := ⟨.hbm, 491, rfl⟩
abbrev main_v411 : Ref sig .tc := ⟨.hbm, 492, rfl⟩
abbrev main_cst_58 : Ref sig .tc := ⟨.hbm, 493, rfl⟩
abbrev main_v412 : Ref sig .tc := ⟨.hbm, 494, rfl⟩
abbrev main_v413 : Ref sig .tc := ⟨.hbm, 495, rfl⟩
abbrev main_c_59 : Ref sig .tc := ⟨.hbm, 496, rfl⟩
abbrev main_v414 : Ref sig .tc := ⟨.hbm, 497, rfl⟩
abbrev main_v415 : Ref sig .tc := ⟨.hbm, 498, rfl⟩
abbrev main_c_60 : Ref sig .tc := ⟨.hbm, 499, rfl⟩
abbrev main_v416 : Ref sig .tc := ⟨.hbm, 500, rfl⟩
abbrev main_v417 : Ref sig .tc := ⟨.hbm, 501, rfl⟩
abbrev main_v418 : Ref sig .tc := ⟨.hbm, 502, rfl⟩
abbrev main_v419 : Ref sig .tc := ⟨.hbm, 503, rfl⟩
abbrev main_v420 : Ref sig .tc := ⟨.hbm, 504, rfl⟩
abbrev main_v421 : Ref sig .tc := ⟨.hbm, 505, rfl⟩
abbrev main_v422 : Ref sig .tc := ⟨.hbm, 506, rfl⟩
abbrev main_c_61 : Ref sig .tc := ⟨.hbm, 507, rfl⟩
abbrev main_v423 : Ref sig .tc := ⟨.hbm, 508, rfl⟩
abbrev main_v424 : Ref sig .tc := ⟨.hbm, 509, rfl⟩
abbrev main_c_62 : Ref sig .tc := ⟨.hbm, 510, rfl⟩
abbrev main_v425 : Ref sig .tc := ⟨.hbm, 511, rfl⟩
abbrev main_v426 : Ref sig .tc := ⟨.hbm, 512, rfl⟩
abbrev main_v427 : Ref sig .tc := ⟨.hbm, 513, rfl⟩
abbrev main_v428 : Ref sig .tc := ⟨.hbm, 514, rfl⟩
abbrev main_v429 : Ref sig .tc := ⟨.hbm, 515, rfl⟩
abbrev main_v430 : Ref sig .tc := ⟨.hbm, 516, rfl⟩
abbrev main_v431 : Ref sig .tc := ⟨.hbm, 517, rfl⟩
abbrev main_v432 : Ref sig .tc := ⟨.hbm, 518, rfl⟩
abbrev main_v433 : Ref sig .tc := ⟨.hbm, 519, rfl⟩
abbrev main_v434 : Ref sig .tc := ⟨.hbm, 520, rfl⟩
abbrev main_v435 : Ref sig .tc := ⟨.hbm, 521, rfl⟩
abbrev main_v436 : Ref sig .tc := ⟨.hbm, 522, rfl⟩
abbrev main_v437 : Ref sig .tc := ⟨.hbm, 523, rfl⟩
abbrev main_v438 : Ref sig .tc := ⟨.hbm, 524, rfl⟩
abbrev main_v439 : Ref sig .tc := ⟨.hbm, 525, rfl⟩
abbrev main_v440 : Ref sig .tc := ⟨.hbm, 526, rfl⟩
abbrev main_v441 : Ref sig .tc := ⟨.hbm, 527, rfl⟩
abbrev main_v442 : Ref sig .tc := ⟨.hbm, 528, rfl⟩
abbrev main_v443 : Ref sig .tc := ⟨.hbm, 529, rfl⟩
abbrev main_v444 : Ref sig .tc := ⟨.hbm, 530, rfl⟩
abbrev main_v445 : Ref sig .tc := ⟨.hbm, 531, rfl⟩
abbrev main_v446 : Ref sig .tc := ⟨.hbm, 532, rfl⟩
abbrev main_v447 : Ref sig .tc := ⟨.hbm, 533, rfl⟩
abbrev main_cst_63 : Ref sig .tc := ⟨.hbm, 534, rfl⟩
abbrev main_v448 : Ref sig .tc := ⟨.hbm, 535, rfl⟩
abbrev main_v449 : Ref sig .tc := ⟨.hbm, 536, rfl⟩
abbrev main_cst_64 : Ref sig .tc := ⟨.hbm, 537, rfl⟩
abbrev main_v450 : Ref sig .tc := ⟨.hbm, 538, rfl⟩
abbrev main_v451 : Ref sig .tc := ⟨.hbm, 539, rfl⟩
abbrev main_v452 : Ref sig .tc := ⟨.hbm, 540, rfl⟩
abbrev main_v453 : Ref sig .tc := ⟨.hbm, 541, rfl⟩
abbrev main_call2_cst : Ref sig .tc := ⟨.hbm, 542, rfl⟩
abbrev main_call2_v0 : Ref sig .tc := ⟨.hbm, 543, rfl⟩
abbrev main_v454 : Ref sig .tc := ⟨.hbm, 544, rfl⟩
abbrev main_v455 : Ref sig .tc := ⟨.hbm, 545, rfl⟩
abbrev main_v456 : Ref sig .tc := ⟨.hbm, 546, rfl⟩
abbrev main_v457 : Ref sig .tc := ⟨.hbm, 547, rfl⟩
abbrev main_v458 : Ref sig .tc := ⟨.hbm, 548, rfl⟩

abbrev nD : Nat := 1
abbrev τ : Topo := Topo.v7x

variable {F : FTy → Type} [FloatOps F]
-- ==== Proof.Scalars.lean ====
module

public import Idealize.ShloMosaic.Lib.Pointwise

@[expose] public section

noncomputable section

namespace Cert.Scalars

open Idealize.ShloMosaic

/-- One half, as an extended real. -/
def hf : EReal := ((1 / 2 : ℝ) : EReal)

/-- The binary32 pattern of `0.5` denotes one half. -/
theorem ofBits_half : Ideal.ofBits .f32 0x3F000000#32 = hf := by
  simp [Ideal.ofBits, Ideal.ieee, hf, -EReal.coe_mul]; norm_num

/-- Halving distributes over every extended-real sum, the infinite ones included. -/
theorem hf_add (a b : EReal) : hf * (a + b) = hf * a + hf * b :=
  EReal.left_distrib_of_nonneg_of_ne_top (EReal.coe_nonneg.mpr (by norm_num)) (EReal.coe_ne_top _) a b

/-- Halving distributes over a finite sum. -/
theorem hf_sum {n : ℕ} (f : Fin n → EReal) : hf * ∑ i, f i = ∑ i, hf * f i := by
  induction n with
  | zero => simp
  | succ n ih => rw [Fin.sum_univ_succ, Fin.sum_univ_succ, hf_add, ih]

/-- The hyperbolic tangent vanishes at zero. -/
theorem tanh_zero : Ideal.tanh 0 = 0 := by
  have h := Ideal.tanh_coe 0
  rw [Real.tanh_zero] at h
  exact_mod_cast h

/-- One half of one, plus one half, is one. -/
theorem hf_one_add : hf * 1 + hf = 1 := by
  rw [mul_one]; unfold hf; rw [← EReal.coe_add]; norm_num

/-- One half of minus one, plus one half, is zero. -/
theorem hf_neg_one_add : hf * (-1) + hf = 0 := by
  rw [mul_neg, mul_one]; unfold hf; rw [← EReal.coe_neg, ← EReal.coe_add]; norm_num

/-- The logistic function is half the hyperbolic tangent of half the argument, plus one half: at every extended real. -/
theorem logistic_eq (x : EReal) : Ideal.logistic x = hf * Ideal.tanh (hf * x) + hf := by
  induction x with
  | bot =>
    rw [Ideal.logistic_bot, show hf * ⊥ = (⊥ : EReal) from EReal.coe_mul_bot_of_pos (by norm_num), Ideal.tanh_bot, hf_neg_one_add]
  | top =>
    rw [Ideal.logistic_top, show hf * ⊤ = (⊤ : EReal) from EReal.coe_mul_top_of_pos (by norm_num), Ideal.tanh_top, hf_one_add]
  | coe r =>
    rw [Ideal.logistic_coe]
    unfold hf
    rw [← EReal.coe_mul, Ideal.tanh_coe, ← EReal.coe_mul, ← EReal.coe_add]
    congr 1
    rw [Real.tanh_eq_sinh_div_cosh, Real.sinh_eq, Real.cosh_eq]
    have h1 : Real.exp (-r) = Real.exp (-(1 / 2 * r)) * Real.exp (-(1 / 2 * r)) := by rw [← Real.exp_add]; congr 1; ring
    have h2 : Real.exp (1 / 2 * r) * Real.exp (-(1 / 2 * r)) = 1 := by rw [← Real.exp_add]; simp
    have ha := Real.exp_pos (1 / 2 * r)
    have hb := Real.exp_pos (-(1 / 2 * r))
    rw [h1]
    generalize Real.exp (1 / 2 * r) = a at *
    generalize Real.exp (-(1 / 2 * r)) = b at *
    have hab : a + b ≠ 0 := (add_pos ha hb).ne'
    have hbb : 1 + b * b ≠ 0 := by positivity
    field_simp
    nlinarith [h2]

/-- The logistic function spelt as one over one plus the exponential of the opposite. -/
theorem sigmoid_eq (x : EReal) : Ideal.div 1 (1 + Ideal.exp (-x)) = hf * Ideal.tanh (hf * x) + hf :=
  logistic_eq x

end Cert.Scalars
-- ==== Proof.Cells.lean ====
module

public import proofs.«01_k».proof.Proof.Scalars

@[expose] public section

noncomputable section

namespace Cert.Cells

open Idealize.ShloMosaic Cert.Scalars

/-- A memory cell as the kernel forms it: the gate written with the hyperbolic tangent of its (already halved)
    pre-activation, times the hyperbolic tangent of the candidate's pre-activation. -/
def cellC {n : ℕ} (x : Fin n → EReal) (w0 w2 : Fin n → EReal) (b0 b2 : EReal) : EReal :=
  (hf * Ideal.tanh ((∑ k, x k * w0 k) + b0) + hf) * Ideal.tanh ((∑ k, x k * w2 k) + b2)

/-- A hidden value as the kernel forms it, from the memory cell `c`: the output gate (its pre-activation already halved,
    with the peephole `p * c`) times the hyperbolic tangent of the cell. -/
def cellH {n : ℕ} (x : Fin n → EReal) (w3 : Fin n → EReal) (b3 p c : EReal) : EReal :=
  (hf * Ideal.tanh ((∑ k, x k * w3 k) + b3 + p * c) + hf) * Ideal.tanh c

/-- A memory cell as the reference forms it: the logistic function of the pre-activation (product with the weights, the
    convolution's bias `a`, the gate's bias `b`), times the hyperbolic tangent of the candidate's. -/
def refC {n : ℕ} (x : Fin n → EReal) (w0 w2 : Fin n → EReal) (a0 b0 a2 b2 : EReal) : EReal :=
  Ideal.div 1 (1 + Ideal.exp (-(((∑ k, x k * w0 k) + a0) + b0))) * Ideal.tanh (((∑ k, x k * w2 k) + a2) + b2)

/-- A hidden value as the reference forms it, from the memory cell `c`. -/
def refH {n : ℕ} (x : Fin n → EReal) (w3 : Fin n → EReal) (a3 p b3 c : EReal) : EReal :=
  Ideal.div 1 (1 + Ideal.exp (-((((∑ k, x k * w3 k) + a3) + p * c) + b3))) * Ideal.tanh c

/-- Halving a product with weights halves the weights. -/
theorem hf_dot {n : ℕ} (x w : Fin n → EReal) : hf * ∑ k, x k * w k = ∑ k, x k * (hf * w k) := by
  rw [hf_sum]
  exact Finset.sum_congr rfl fun k _ => mul_left_comm _ _ _

/-- The kernel's memory cell, over halved gate weights and a halved sum of the two biases, is the reference's. -/
theorem cellC_eq_refC {n : ℕ} (x : Fin n → EReal) (w0 w2 : Fin n → EReal) (a0 b0 a2 b2 : EReal) :
    cellC x (fun k => hf * w0 k) w2 (hf * (a0 + b0)) (a2 + b2) = refC x w0 w2 a0 b0 a2 b2 := by
  unfold cellC refC
  rw [sigmoid_eq, ← hf_dot, ← hf_add, add_assoc, add_assoc]

/-- The kernel's hidden value, over halved gate weights, biases and peephole, is the reference's. -/
theorem cellH_eq_refH {n : ℕ} (x : Fin n → EReal) (w3 : Fin n → EReal) (a3 p b3 c : EReal) :
    cellH x (fun k => hf * w3 k) (hf * (a3 + b3)) (hf * p) c = refH x w3 a3 p b3 c := by
  unfold cellH refH
  rw [sigmoid_eq, ← hf_dot, mul_assoc hf p c, ← hf_add, ← hf_add]
  congr 5
  simp only [add_assoc, add_comm (p * c)]

/-- In a padded column (weights and biases zero) the memory cell is zero. -/
theorem cellC_pad {n : ℕ} (x : Fin n → EReal) : cellC x (fun _ => 0) (fun _ => 0) 0 0 = 0 := by
  simp [cellC, tanh_zero]

/-- Where the memory cell is zero so is the hidden value. -/
theorem cellH_pad {n : ℕ} (x : Fin n → EReal) (w3 : Fin n → EReal) (b3 p : EReal) : cellH x w3 b3 p 0 = 0 := by
  simp [cellH, tanh_zero]

/-- A sum over a padded axis of a function that vanishes on the padding is the sum over the unpadded axis. -/
theorem sum_pad {d N : ℕ} (h : d ≤ N) (f : Fin N → EReal) (h0 : ∀ k : Fin N, d ≤ k.val → f k = 0) :
    ∑ k, f k = ∑ k : Fin d, f ⟨k.val, lt_of_lt_of_le k.isLt h⟩ := by
  obtain ⟨e, rfl⟩ := Nat.exists_eq_add_of_le h
  rw [Fin.sum_univ_add]
  rw [Finset.sum_eq_zero (s := Finset.univ) (f := fun i : Fin e => f (Fin.natAdd d i)) fun i _ => h0 _ (by simp), add_zero]
  rfl

end Cert.Cells
-- ==== Proof.Net.lean ====
module

public import proofs.«01_k».proof.Proof.Cells

@[expose] public section

noncomputable section

namespace Cert.Cells

open Idealize.ShloMosaic

/-- One layer's memory cell at column `j`, of the row `x`: over the layer's stacked weights `w`, convolution biases `a` and
    gate biases `b` (slices 0 and 2: input gate and candidate; the layer starts from a zero cell). -/
def layerC {n d : ℕ} (x : Fin n → EReal) (w : (⟨3, ![4, n, d]⟩ : Shape).Idx → EReal) (a : (⟨2, ![4, d]⟩ : Shape).Idx → EReal)
    (b : (⟨3, ![4, 1, d]⟩ : Shape).Idx → EReal) (j : Fin d) : EReal :=
  refC x (fun k => w (ix3 0 k j)) (fun k => w (ix3 2 k j)) (a (ix2 0 j)) (b (ix3 0 0 j)) (a (ix2 2 j)) (b (ix3 2 0 j))

/-- One layer's hidden value at column `j`, of the row `x`: slice 3 is the output gate, slice 2 of `p` its peephole. -/
def layerH {n d : ℕ} (x : Fin n → EReal) (w : (⟨3, ![4, n, d]⟩ : Shape).Idx → EReal) (a : (⟨2, ![4, d]⟩ : Shape).Idx → EReal)
    (b : (⟨3, ![4, 1, d]⟩ : Shape).Idx → EReal) (p : (⟨3, ![3, 1, d]⟩ : Shape).Idx → EReal) (j : Fin d) : EReal :=
  refH x (fun k => w (ix3 3 k j)) (a (ix2 3 j)) (p (ix3 2 0 j)) (b (ix3 3 0 j)) (layerC x w a b j)

/-- The network's result for one node with features `x`: two layers, the rectifier, the linear head. -/
def net (x : Fin 128 → EReal)
    (w1 : (⟨3, ![4, 128, 50]⟩ : Shape).Idx → EReal) (b1 : (⟨3, ![4, 1, 50]⟩ : Shape).Idx → EReal)
    (a1 : (⟨2, ![4, 50]⟩ : Shape).Idx → EReal) (p1 : (⟨3, ![3, 1, 50]⟩ : Shape).Idx → EReal)
    (w2 : (⟨3, ![4, 50, 20]⟩ : Shape).Idx → EReal) (b2 : (⟨3, ![4, 1, 20]⟩ : Shape).Idx → EReal)
    (a2 : (⟨2, ![4, 20]⟩ : Shape).Idx → EReal) (p2 : (⟨3, ![3, 1, 20]⟩ : Shape).Idx → EReal)
    (l : (⟨2, ![20, 1]⟩ : Shape).Idx → EReal) (l0 : (⟨1, ![1]⟩ : Shape).Idx → EReal) : EReal :=
  (∑ j : Fin 20, max (layerH (fun k => layerH x w1 a1 b1 p1 k) w2 a2 b2 p2 j) 0 * l (ix2 j 0)) + l0 (ix1 0)

end Cert.Cells
-- ==== Proof.KerCells.lean ====
module

public import proofs.«01_k».proof.Proof.Gen.KernelIdeal.Value
public import proofs.«01_k».proof.Proof.Net
public import Idealize.ShloMosaic.Lib.Pipeline.ValueKit

@[expose] public section

noncomputable section

namespace Cert.KernelIdeal.Read

open Idealize.ShloMosaic Cert.KernelIdeal Cert.KernelIdeal.Gen Cert.Cells Cert.Scalars

/-- The first layer's memory cell, at an entry. -/
theorem pay2_at (v0 : FVec Ideal S2000x128 .f32) (v1 v3 : FVec Ideal S128x64 .f32) (v8 v18 : FVec Ideal S1x64 .f32)
    (y : Fin 2000) (j : Fin 64) :
    k0_pay2 (F := Ideal) v0 v1 v3 v8 v18 (ix2 y j)
      = cellC (fun k : Fin 128 => v0 (ix2 y k)) (fun k => v1 (ix2 k j)) (fun k => v3 (ix2 k j)) (v8 (ix2 0 j)) (v18 (ix2 0 j)) := by
  pointwise [k0_pay2]
  simp only [ofBits_half, cellC]

/-- The first layer's hidden value, at an entry. -/
theorem pay43_at (v0 : FVec Ideal S2000x128 .f32) (v1 v3 v5 : FVec Ideal S128x64 .f32)
    (v8 v18 v25 v29 : FVec Ideal S1x64 .f32) (y : Fin 2000) (j : Fin 64) :
    k0_pay4 (F := Ideal) (k0_pay2 v0 v1 v3 v8 v18) (k0_pay3 v0 v1 v3 v5 v8 v18 v25 v29) (ix2 y j)
      = cellH (fun k : Fin 128 => v0 (ix2 y k)) (fun k => v5 (ix2 k j)) (v25 (ix2 0 j)) (v29 (ix2 0 j))
        (k0_pay2 (F := Ideal) v0 v1 v3 v8 v18 (ix2 y j)) := by
  generalize hc : k0_pay2 (F := Ideal) v0 v1 v3 v8 v18 = c
  pointwise [k0_pay4, k0_pay3, hc]
  simp only [ofBits_half, cellH]

/-- The second layer's memory cell, at an entry, over the first layer's hidden values. -/
theorem pay5_at (v23 v36 : FVec Ideal S2000x64 .f32) (v41 v43 : FVec Ideal S64x64 .f32) (v48 v58 : FVec Ideal S1x64 .f32)
    (y : Fin 2000) (j : Fin 64) :
    k0_pay5 (F := Ideal) v23 v36 v41 v43 v48 v58 (ix2 y j)
      = cellC (fun k : Fin 64 => k0_pay4 (F := Ideal) v23 v36 (ix2 y k)) (fun k => v41 (ix2 k j)) (fun k => v43 (ix2 k j))
        (v48 (ix2 0 j)) (v58 (ix2 0 j)) := by
  generalize hc : k0_pay4 (F := Ideal) v23 v36 = c
  pointwise [k0_pay5, hc]
  simp only [ofBits_half, cellC]

/-- The head over the second layer's hidden values, at a row. -/
theorem pay1_at (v23 v36 : FVec Ideal S2000x64 .f32) (v41 v43 v45 : FVec Ideal S64x64 .f32)
    (v48 v58 v65 v69 : FVec Ideal S1x64 .f32) (v83 : FVec Ideal S64x1 .f32) (v86 : FVec Ideal S1x1 .f32) (y : Fin 2000) :
    k0_pay1 (F := Ideal) (k0_pay5 v23 v36 v41 v43 v48 v58) (k0_pay6 v23 v36 v41 v43 v45 v48 v58 v65 v69) k0_pay7 v83 v86
        (ix2 y 0)
      = (∑ j : Fin 64, max (cellH (fun k : Fin 64 => k0_pay4 (F := Ideal) v23 v36 (ix2 y k)) (fun k => v45 (ix2 k j))
          (v65 (ix2 0 j)) (v69 (ix2 0 j)) (k0_pay5 (F := Ideal) v23 v36 v41 v43 v48 v58 (ix2 y j))) 0 * v83 (ix2 j 0))
        + v86 (ix2 0 0) := by
  generalize hc : k0_pay5 (F := Ideal) v23 v36 v41 v43 v48 v58 = c
  generalize hh : k0_pay4 (F := Ideal) v23 v36 = h
  pointwise [k0_pay1, k0_pay6, k0_pay7, hc, hh]
  simp only [ofBits_half, cellH]

end Cert.KernelIdeal.Read
-- ==== Proof.KerNet.lean ====
module

public import proofs.«01_k».proof.Proof.KerCells

@[expose] public section

noncomputable section

namespace Cert.KernelIdeal.Read

open Idealize.ShloMosaic Cert.KernelIdeal Cert.KernelIdeal.Gen Cert.Cells Cert.Scalars

/-- A memory cell over inputs that vanish past `d` is the cell over the first `d` inputs. -/
theorem cellC_cut {d N : ℕ} (h : d ≤ N) (x w0 w2 : Fin N → EReal) (b0 b2 : EReal)
    (hx : ∀ k : Fin N, d ≤ k.val → x k = 0) :
    cellC x w0 w2 b0 b2 = cellC (fun k : Fin d => x ⟨k.val, lt_of_lt_of_le k.isLt h⟩)
      (fun k => w0 ⟨k.val, lt_of_lt_of_le k.isLt h⟩) (fun k => w2 ⟨k.val, lt_of_lt_of_le k.isLt h⟩) b0 b2 := by
  unfold cellC
  rw [sum_pad h (fun k => x k * w0 k) fun k hk => by rw [hx k hk, zero_mul],
    sum_pad h (fun k => x k * w2 k) fun k hk => by rw [hx k hk, zero_mul]]

/-- A hidden value over inputs that vanish past `d` is the hidden value over the first `d` inputs. -/
theorem cellH_cut {d N : ℕ} (h : d ≤ N) (x w3 : Fin N → EReal) (b3 p c : EReal)
    (hx : ∀ k : Fin N, d ≤ k.val → x k = 0) :
    cellH x w3 b3 p c = cellH (fun k : Fin d => x ⟨k.val, lt_of_lt_of_le k.isLt h⟩)
      (fun k => w3 ⟨k.val, lt_of_lt_of_le k.isLt h⟩) b3 p c := by
  unfold cellH
  rw [sum_pad h (fun k => x k * w3 k) fun k hk => by rw [hx k hk, zero_mul]]

section Layer

variable {n d : ℕ} (x : Fin n → EReal) (w : (⟨3, ![4, n, d]⟩ : Shape).Idx → EReal)
  (b : (⟨3, ![4, 1, d]⟩ : Shape).Idx → EReal) (a : (⟨2, ![4, d]⟩ : Shape).Idx → EReal)
  (p : (⟨3, ![3, 1, d]⟩ : Shape).Idx → EReal)

/-- A layer's memory cell, from the packed (halved and zero padded) parameters: the layer's in its own columns, zero in
    the padding. -/
theorem cellC_layer (j : ℕ) (w0 w2 : Fin n → EReal) (b0 b2 : EReal)
    (h0 : ∀ k, w0 k = if h : j < d then hf * w (ix3 0 k ⟨j, h⟩) else 0)
    (h2 : ∀ k, w2 k = if h : j < d then w (ix3 2 k ⟨j, h⟩) else 0)
    (hb0 : b0 = if h : j < d then hf * (b (ix3 0 0 ⟨j, h⟩) + a (ix2 0 ⟨j, h⟩)) else 0)
    (hb2 : b2 = if h : j < d then b (ix3 2 0 ⟨j, h⟩) + a (ix2 2 ⟨j, h⟩) else 0) :
    cellC x w0 w2 b0 b2 = if h : j < d then layerC x w a b ⟨j, h⟩ else 0 := by
  by_cases h : j < d
  · simp only [h, dif_pos] at h0 h2 hb0 hb2 ⊢
    rw [funext h0, funext h2, hb0, hb2, add_comm (b _), add_comm (b _), cellC_eq_refC]
    rfl
  · simp only [h, dif_neg, not_false_eq_true] at h0 h2 hb0 hb2 ⊢
    rw [funext h0, funext h2, hb0, hb2, cellC_pad]

/-- A layer's hidden value, from the packed parameters: the layer's in its own columns, zero in the padding. -/
theorem cellH_layer (j : ℕ) (w3 : Fin n → EReal) (b3 p2 c : EReal)
    (h3 : ∀ k, w3 k = if h : j < d then hf * w (ix3 3 k ⟨j, h⟩) else 0)
    (hb3 : b3 = if h : j < d then hf * (b (ix3 3 0 ⟨j, h⟩) + a (ix2 3 ⟨j, h⟩)) else 0)
    (hp : p2 = if h : j < d then hf * p (ix3 2 0 ⟨j, h⟩) else 0)
    (hc : c = if h : j < d then layerC x w a b ⟨j, h⟩ else 0) :
    cellH x w3 b3 p2 c = if h : j < d then layerH x w a b p ⟨j, h⟩ else 0 := by
  by_cases h : j < d
  · simp only [h, dif_pos] at h3 hb3 hp hc ⊢
    rw [funext h3, hb3, hp, hc, add_comm (b _), cellH_eq_refH]
    rfl
  · simp only [h, dif_neg, not_false_eq_true] at h3 hb3 hp hc ⊢
    rw [hc, cellH_pad]

end Layer

/-- The body's stored block, at a row: the network of that row of the input block, whenever the blocks it loads from the
    packed parameters are the halved, zero-padded slices of the parameter arrays. -/
theorem body_at (v0 : FVec Ideal S2000x128 .f32) (v1 v3 v5 : FVec Ideal S128x64 .f32) (v8 v18 v25 v29 : FVec Ideal S1x64 .f32)
    (v41 v43 v45 : FVec Ideal S64x64 .f32) (v48 v58 v65 v69 : FVec Ideal S1x64 .f32) (v83 : FVec Ideal S64x1 .f32)
    (v86 : FVec Ideal S1x1 .f32) (w1 : FVec Ideal S4x128x50 .f32) (b1 : FVec Ideal S4x1x50 .f32) (a1 : FVec Ideal S4x50 .f32)
    (p1 : FVec Ideal S3x1x50 .f32) (w2 : FVec Ideal S4x50x20 .f32) (b2 : FVec Ideal S4x1x20 .f32) (a2 : FVec Ideal S4x20 .f32)
    (p2 : FVec Ideal S3x1x20 .f32) (l : FVec Ideal S20x1 .f32) (l0 : FVec Ideal S1 .f32)
    (h1 : ∀ (k : Fin 128) (j : Fin 64), v1 (ix2 k j) = if h : j.val < 50 then hf * w1 (ix3 0 k ⟨j.val, h⟩) else 0)
    (h3 : ∀ (k : Fin 128) (j : Fin 64), v3 (ix2 k j) = if h : j.val < 50 then w1 (ix3 2 k ⟨j.val, h⟩) else 0)
    (h5 : ∀ (k : Fin 128) (j : Fin 64), v5 (ix2 k j) = if h : j.val < 50 then hf * w1 (ix3 3 k ⟨j.val, h⟩) else 0)
    (h8 : ∀ j : Fin 64, v8 (ix2 0 j)
      = if h : j.val < 50 then hf * (b1 (ix3 0 0 ⟨j.val, h⟩) + a1 (ix2 0 ⟨j.val, h⟩)) else 0)
    (h18 : ∀ j : Fin 64, v18 (ix2 0 j)
      = if h : j.val < 50 then b1 (ix3 2 0 ⟨j.val, h⟩) + a1 (ix2 2 ⟨j.val, h⟩) else 0)
    (h25 : ∀ j : Fin 64, v25 (ix2 0 j)
      = if h : j.val < 50 then hf * (b1 (ix3 3 0 ⟨j.val, h⟩) + a1 (ix2 3 ⟨j.val, h⟩)) else 0)
    (h29 : ∀ j : Fin 64, v29 (ix2 0 j) = if h : j.val < 50 then hf * p1 (ix3 2 0 ⟨j.val, h⟩) else 0)
    (h41 : ∀ k j : Fin 64, v41 (ix2 k j) = if hk : k.val < 50 then
      if h : j.val < 20 then hf * w2 (ix3 0 ⟨k.val, hk⟩ ⟨j.val, h⟩) else 0 else 0)
    (h43 : ∀ k j : Fin 64, v43 (ix2 k j) = if hk : k.val < 50 then
      if h : j.val < 20 then w2 (ix3 2 ⟨k.val, hk⟩ ⟨j.val, h⟩) else 0 else 0)
    (h45 : ∀ k j : Fin 64, v45 (ix2 k j) = if hk : k.val < 50 then
      if h : j.val < 20 then hf * w2 (ix3 3 ⟨k.val, hk⟩ ⟨j.val, h⟩) else 0 else 0)
    (h48 : ∀ j : Fin 64, v48 (ix2 0 j)
      = if h : j.val < 20 then hf * (b2 (ix3 0 0 ⟨j.val, h⟩) + a2 (ix2 0 ⟨j.val, h⟩)) else 0)
    (h58 : ∀ j : Fin 64, v58 (ix2 0 j)
      = if h : j.val < 20 then b2 (ix3 2 0 ⟨j.val, h⟩) + a2 (ix2 2 ⟨j.val, h⟩) else 0)
    (h65 : ∀ j : Fin 64, v65 (ix2 0 j)
      = if h : j.val < 20 then hf * (b2 (ix3 3 0 ⟨j.val, h⟩) + a2 (ix2 3 ⟨j.val, h⟩)) else 0)
    (h69 : ∀ j : Fin 64, v69 (ix2 0 j) = if h : j.val < 20 then hf * p2 (ix3 2 0 ⟨j.val, h⟩) else 0)
    (h83 : ∀ j : Fin 64, v83 (ix2 j 0) = if h : j.val < 20 then l (ix2 ⟨j.val, h⟩ 0) else 0)
    (h86 : v86 (ix2 0 0) = l0 (ix1 0)) (y : Fin 2000) :
    k0_pay1 (F := Ideal)
        (k0_pay5 (k0_pay2 v0 v1 v3 v8 v18) (k0_pay3 v0 v1 v3 v5 v8 v18 v25 v29) v41 v43 v48 v58)
        (k0_pay6 (k0_pay2 v0 v1 v3 v8 v18) (k0_pay3 v0 v1 v3 v5 v8 v18 v25 v29) v41 v43 v45 v48 v58 v65 v69)
        k0_pay7 v83 v86 (ix2 y 0)
      = net (fun k : Fin 128 => v0 (ix2 y k)) w1 b1 a1 p1 w2 b2 a2 p2 l l0 := by
  have H1 : ∀ j : Fin 64, k0_pay4 (F := Ideal) (k0_pay2 v0 v1 v3 v8 v18) (k0_pay3 v0 v1 v3 v5 v8 v18 v25 v29) (ix2 y j)
      = if h : j.val < 50 then layerH (fun k : Fin 128 => v0 (ix2 y k)) w1 a1 b1 p1 ⟨j.val, h⟩ else 0 := by
    intro j
    rw [pay43_at]
    refine cellH_layer _ w1 b1 a1 p1 j.val _ _ _ _ (h5 · j) (h25 j) (h29 j) ?_
    rw [pay2_at]
    exact cellC_layer _ w1 b1 a1 j.val _ _ _ _ (h1 · j) (h3 · j) (h8 j) (h18 j)
  have hz : ∀ k : Fin 64, 50 ≤ k.val →
      k0_pay4 (F := Ideal) (k0_pay2 v0 v1 v3 v8 v18) (k0_pay3 v0 v1 v3 v5 v8 v18 v25 v29) (ix2 y k) = 0 :=
    fun k hk => by rw [H1 k, dif_neg (by omega)]
  have hx : (fun k : Fin 50 => k0_pay4 (F := Ideal) (k0_pay2 v0 v1 v3 v8 v18) (k0_pay3 v0 v1 v3 v5 v8 v18 v25 v29)
      (ix2 y (⟨k.val, lt_of_lt_of_le k.isLt (by decide)⟩ : Fin 64)))
      = fun k => layerH (fun k : Fin 128 => v0 (ix2 y k)) w1 a1 b1 p1 k :=
    funext fun k => by rw [H1, dif_pos k.isLt]
  have H2 : ∀ j : Fin 64, cellH (fun k : Fin 64 => k0_pay4 (F := Ideal) (k0_pay2 v0 v1 v3 v8 v18)
        (k0_pay3 v0 v1 v3 v5 v8 v18 v25 v29) (ix2 y k)) (fun k => v45 (ix2 k j)) (v65 (ix2 0 j)) (v69 (ix2 0 j))
        (k0_pay5 (F := Ideal) (k0_pay2 v0 v1 v3 v8 v18) (k0_pay3 v0 v1 v3 v5 v8 v18 v25 v29) v41 v43 v48 v58 (ix2 y j))
      = if h : j.val < 20 then
          layerH (fun k => layerH (fun k : Fin 128 => v0 (ix2 y k)) w1 a1 b1 p1 k) w2 a2 b2 p2 ⟨j.val, h⟩ else 0 := by
    intro j
    rw [cellH_cut (d := 50) (by decide) _ _ _ _ _ hz, hx]
    refine cellH_layer _ w2 b2 a2 p2 j.val _ _ _ _ (fun k => ?_) (h65 j) (h69 j) ?_
    · rw [h45, dif_pos k.isLt]
    rw [pay5_at, cellC_cut (d := 50) (by decide) _ _ _ _ _ hz, hx]
    refine cellC_layer _ w2 b2 a2 j.val _ _ _ _ (fun k => ?_) (fun k => ?_) (h48 j) (h58 j)
    · rw [h41, dif_pos k.isLt]
    · rw [h43, dif_pos k.isLt]
  rw [pay1_at, h86, sum_pad (d := 20) (by decide)]
  · unfold net
    congr 1
    refine Finset.sum_congr rfl fun j _ => ?_
    rw [H2, h83, dif_pos j.isLt, dif_pos j.isLt]
  · intro j hj
    rw [h83, dif_neg (by omega), mul_zero]

end Cert.KernelIdeal.Read
-- ==== Proof.Blocks.lean ====
module

public import proofs.«01_k».proof.Proof.Gen.KernelIdeal.Value
public import proofs.«01_k».proof.Proof.Net
public import Idealize.ShloMosaic.Lib.Pipeline.ValueKit
public import Idealize.ShloMosaic.Lib.StableHlo.RunRead

@[expose] public section

set_option maxRecDepth 16384

noncomputable section

namespace Cert.KernelIdeal.Read

open Idealize.ShloMosaic Idealize.ShloMosaic.TcCoe Idealize.SL.Sem
open Cert.KernelIdeal Cert.KernelIdeal.Gen Cert.Cells Cert.Scalars

/-- The value the host pads with. -/
def zro : FVec Ideal S_ .f32 := sitofp .f32 (constantI S_ 32 0#32)

/-- It is zero. -/
theorem zro_at (i : S_.Idx) : zro i = 0 := by
  pointwise [zro]
  show (((0#32 : BitVec 32).toInt : ℝ) : EReal) = 0
  simp

/-- Zero padding of a 128 by 50 weight matrix: first its columns, then its rows. -/
def padW1 (x : FVec Ideal S128x50 .f32) : FVec Ideal S128x64 .f32 :=
  pad S128x64 ![0, 0] ![0, 0] ![0, 0] (pad S128x64 ![0, 0] ![0, 14] ![0, 0] x zro pads_S128x50_S128x64_000_0140 h_S_) zro
    pads_S128x64_S128x64_000_000 h_S_

/-- Zero padding of a 50 by 20 weight matrix: first its columns, then its rows. -/
def padW2 (x : FVec Ideal S50x20 .f32) : FVec Ideal S64x64 .f32 :=
  pad S64x64 ![0, 0] ![14, 0] ![0, 0] (pad S50x64 ![0, 0] ![0, 44] ![0, 0] x zro pads_S50x20_S50x64_000_0440 h_S_) zro
    pads_S50x64_S64x64_0140_000 h_S_

/-- Zero padding of a row of 50: first its columns, then its rows. -/
def padB1 (x : FVec Ideal S1x50 .f32) : FVec Ideal S8x64 .f32 :=
  pad S8x64 ![0, 0] ![7, 0] ![0, 0] (pad S1x64 ![0, 0] ![0, 14] ![0, 0] x zro pads_S1x50_S1x64_000_0140 h_S_) zro
    pads_S1x64_S8x64_070_000 h_S_

/-- Zero padding of a row of 20: first its columns, then its rows. -/
def padB2 (x : FVec Ideal S1x20 .f32) : FVec Ideal S8x64 .f32 :=
  pad S8x64 ![0, 0] ![7, 0] ![0, 0] (pad S1x64 ![0, 0] ![0, 44] ![0, 0] x zro pads_S1x20_S1x64_000_0440 h_S_) zro
    pads_S1x64_S8x64_070_000 h_S_

/-- Zero padding of the head's weights: first its columns, then its rows. -/
def padL (x : FVec Ideal S20x1 .f32) : FVec Ideal S64x64 .f32 :=
  pad S64x64 ![0, 0] ![44, 0] ![0, 0] (pad S20x64 ![0, 0] ![0, 63] ![0, 0] x zro pads_S20x1_S20x64_000_0630 h_S_) zro
    pads_S20x64_S64x64_0440_000 h_S_

/-- Zero padding of the head's bias: first its columns, then its rows. -/
def padL0 (x : FVec Ideal S1x1 .f32) : FVec Ideal S8x64 .f32 :=
  pad S8x64 ![0, 0] ![7, 0] ![0, 0] (pad S1x64 ![0, 0] ![0, 63] ![0, 0] x zro pads_S1x1_S1x64_000_0630 h_S_) zro
    pads_S1x64_S8x64_070_000 h_S_

/-- An entry of the padded matrix: the matrix's, or zero outside it. -/
theorem padW1_at (x : FVec Ideal S128x50 .f32) (k : Fin 128) (j : Fin 64) :
    padW1 x (ix2 k j) = if h : j.val < 50 then x (ix2 k ⟨j.val, h⟩) else 0 := by
  pointwise [padW1]
  simp only [zro_at]

/-- An entry of the padded matrix: the matrix's, or zero outside it. -/
theorem padW2_at (x : FVec Ideal S50x20 .f32) (k j : Fin 64) :
    padW2 x (ix2 k j) = if hk : k.val < 50 then if h : j.val < 20 then x (ix2 ⟨k.val, hk⟩ ⟨j.val, h⟩) else 0 else 0 := by
  pointwise [padW2]
  simp only [zro_at]
  by_cases hk : k.val < 50 <;> simp [hk]

/-- An entry of the first row of the padded block: the row's, or zero outside it. -/
theorem padB1_at (x : FVec Ideal S1x50 .f32) (j : Fin 64) :
    padB1 x (ix2 0 j) = if h : j.val < 50 then x (ix2 0 ⟨j.val, h⟩) else 0 := by
  pointwise [padB1]
  simp only [zro_at]

/-- An entry of the first row of the padded block: the row's, or zero outside it. -/
theorem padB2_at (x : FVec Ideal S1x20 .f32) (j : Fin 64) :
    padB2 x (ix2 0 j) = if h : j.val < 20 then x (ix2 0 ⟨j.val, h⟩) else 0 := by
  pointwise [padB2]
  simp only [zro_at]

/-- An entry of the first column of the padded block: the column's, or zero outside it. -/
theorem padL_at (x : FVec Ideal S20x1 .f32) (k : Fin 64) :
    padL x (ix2 k 0) = if h : k.val < 20 then x (ix2 ⟨k.val, h⟩ 0) else 0 := by
  pointwise [padL]
  simp only [zro_at]
  by_cases hk : k.val < 20 <;> simp [hk]

/-- The corner entry of the padded block. -/
theorem padL0_at (x : FVec Ideal S1x1 .f32)  :
    padL0 x (ix2 0 0) = x (ix2 0 0) := by
  pointwise [padL0]

/-- Layer 1's weights, slice 0, halved. -/
def w1_0 (x : FVec Ideal S4x128x50 .f32) : FVec Ideal S128x50 .f32 :=
  mulf (broadcastInDim S128x50 ![] bcast_S_S128x50 (constant S_ .f32 0x3F000000#32)) (shapeCast S128x50 (extractStridedSlice S1x128x50 ![0, 0, 0] x slices_S4x128x50_S1x128x50_0_0_0) shapeCasts_S1x128x50_S128x50)

/-- Its entries. -/
theorem w1_0_at (x : FVec Ideal S4x128x50 .f32) (k : Fin 128) (j : Fin 50) : w1_0 x (ix2 k j) = hf * x (ix3 0 k j) := by
  pointwise [w1_0]
  rw [ofBits_half]

/-- Layer 1's weights, slice 2. -/
def w1_2 (x : FVec Ideal S4x128x50 .f32) : FVec Ideal S128x50 .f32 :=
  shapeCast S128x50 (extractStridedSlice S1x128x50 ![2, 0, 0] x slices_S4x128x50_S1x128x50_2_0_0) shapeCasts_S1x128x50_S128x50

/-- Its entries. -/
theorem w1_2_at (x : FVec Ideal S4x128x50 .f32) (k : Fin 128) (j : Fin 50) : w1_2 x (ix2 k j) = x (ix3 2 k j) := by
  pointwise [w1_2]

/-- Layer 1's weights, slice 3, halved. -/
def w1_3 (x : FVec Ideal S4x128x50 .f32) : FVec Ideal S128x50 .f32 :=
  mulf (broadcastInDim S128x50 ![] bcast_S_S128x50 (constant S_ .f32 0x3F000000#32)) (shapeCast S128x50 (extractStridedSlice S1x128x50 ![3, 0, 0] x slices_S4x128x50_S1x128x50_3_0_0) shapeCasts_S1x128x50_S128x50)

/-- Its entries. -/
theorem w1_3_at (x : FVec Ideal S4x128x50 .f32) (k : Fin 128) (j : Fin 50) : w1_3 x (ix2 k j) = hf * x (ix3 3 k j) := by
  pointwise [w1_3]
  rw [ofBits_half]

/-- Layer 1's two biases added, slice 0, halved. -/
def b1_0 (b : FVec Ideal S4x1x50 .f32) (a : FVec Ideal S4x50 .f32) : FVec Ideal S1x50 .f32 :=
  mulf (broadcastInDim S1x50 ![] bcast_S_S1x50 (constant S_ .f32 0x3F000000#32)) (addf (shapeCast S1x50 (extractStridedSlice S1x1x50 ![0, 0, 0] b slices_S4x1x50_S1x1x50_0_0_0) shapeCasts_S1x1x50_S1x50) (broadcastInDim S1x50 ![1] bcast_S50_S1x50_1 (shapeCast S50 (extractStridedSlice S1x50 ![0, 0] a slices_S4x50_S1x50_0_0) shapeCasts_S1x50_S50)))

/-- Its entries. -/
theorem b1_0_at (b : FVec Ideal S4x1x50 .f32) (a : FVec Ideal S4x50 .f32) (j : Fin 50) : b1_0 b a (ix2 0 j) = hf * (b (ix3 0 0 j) + a (ix2 0 j)) := by
  pointwise [b1_0]
  rw [ofBits_half]

/-- Layer 1's two biases added, slice 2. -/
def b1_2 (b : FVec Ideal S4x1x50 .f32) (a : FVec Ideal S4x50 .f32) : FVec Ideal S1x50 .f32 :=
  addf (shapeCast S1x50 (extractStridedSlice S1x1x50 ![2, 0, 0] b slices_S4x1x50_S1x1x50_2_0_0) shapeCasts_S1x1x50_S1x50) (broadcastInDim S1x50 ![1] bcast_S50_S1x50_1 (shapeCast S50 (extractStridedSlice S1x50 ![2, 0] a slices_S4x50_S1x50_2_0) shapeCasts_S1x50_S50))

/-- Its entries. -/
theorem b1_2_at (b : FVec Ideal S4x1x50 .f32) (a : FVec Ideal S4x50 .f32) (j : Fin 50) : b1_2 b a (ix2 0 j) = b (ix3 2 0 j) + a (ix2 2 j) := by
  pointwise [b1_2]

/-- Layer 1's two biases added, slice 3, halved. -/
def b1_3 (b : FVec Ideal S4x1x50 .f32) (a : FVec Ideal S4x50 .f32) : FVec Ideal S1x50 .f32 :=
  mulf (broadcastInDim S1x50 ![] bcast_S_S1x50 (constant S_ .f32 0x3F000000#32)) (addf (shapeCast S1x50 (extractStridedSlice S1x1x50 ![3, 0, 0] b slices_S4x1x50_S1x1x50_3_0_0) shapeCasts_S1x1x50_S1x50) (broadcastInDim S1x50 ![1] bcast_S50_S1x50_1 (shapeCast S50 (extractStridedSlice S1x50 ![3, 0] a slices_S4x50_S1x50_3_0) shapeCasts_S1x50_S50)))

/-- Its entries. -/
theorem b1_3_at (b : FVec Ideal S4x1x50 .f32) (a : FVec Ideal S4x50 .f32) (j : Fin 50) : b1_3 b a (ix2 0 j) = hf * (b (ix3 3 0 j) + a (ix2 3 j)) := by
  pointwise [b1_3]
  rw [ofBits_half]

/-- Layer 1's output peephole, halved. -/
def p1 (x : FVec Ideal S3x1x50 .f32) : FVec Ideal S1x50 .f32 :=
  mulf (broadcastInDim S1x50 ![] bcast_S_S1x50 (constant S_ .f32 0x3F000000#32)) (shapeCast S1x50 (extractStridedSlice S1x1x50 ![2, 0, 0] x slices_S3x1x50_S1x1x50_2_0_0) shapeCasts_S1x1x50_S1x50)

/-- Its entries. -/
theorem p1_at (x : FVec Ideal S3x1x50 .f32) (j : Fin 50) : p1 x (ix2 0 j) = hf * x (ix3 2 0 j) := by
  pointwise [p1]
  rw [ofBits_half]

/-- Layer 2's weights, slice 0, halved. -/
def w2_0 (x : FVec Ideal S4x50x20 .f32) : FVec Ideal S50x20 .f32 :=
  mulf (broadcastInDim S50x20 ![] bcast_S_S50x20 (constant S_ .f32 0x3F000000#32)) (shapeCast S50x20 (extractStridedSlice S1x50x20 ![0, 0, 0] x slices_S4x50x20_S1x50x20_0_0_0) shapeCasts_S1x50x20_S50x20)

/-- Its entries. -/
theorem w2_0_at (x : FVec Ideal S4x50x20 .f32) (k : Fin 50) (j : Fin 20) : w2_0 x (ix2 k j) = hf * x (ix3 0 k j) := by
  pointwise [w2_0]
  rw [ofBits_half]

/-- Layer 2's weights, slice 2. -/
def w2_2 (x : FVec Ideal S4x50x20 .f32) : FVec Ideal S50x20 .f32 :=
  shapeCast S50x20 (extractStridedSlice S1x50x20 ![2, 0, 0] x slices_S4x50x20_S1x50x20_2_0_0) shapeCasts_S1x50x20_S50x20

/-- Its entries. -/
theorem w2_2_at (x : FVec Ideal S4x50x20 .f32) (k : Fin 50) (j : Fin 20) : w2_2 x (ix2 k j) = x (ix3 2 k j) := by
  pointwise [w2_2]

/-- Layer 2's weights, slice 3, halved. -/
def w2_3 (x : FVec Ideal S4x50x20 .f32) : FVec Ideal S50x20 .f32 :=
  mulf (broadcastInDim S50x20 ![] bcast_S_S50x20 (constant S_ .f32 0x3F000000#32)) (shapeCast S50x20 (extractStridedSlice S1x50x20 ![3, 0, 0] x slices_S4x50x20_S1x50x20_3_0_0) shapeCasts_S1x50x20_S50x20)

/-- Its entries. -/
theorem w2_3_at (x : FVec Ideal S4x50x20 .f32) (k : Fin 50) (j : Fin 20) : w2_3 x (ix2 k j) = hf * x (ix3 3 k j) := by
  pointwise [w2_3]
  rw [ofBits_half]

/-- Layer 2's two biases added, slice 0, halved. -/
def b2_0 (b : FVec Ideal S4x1x20 .f32) (a : FVec Ideal S4x20 .f32) : FVec Ideal S1x20 .f32 :=
  mulf (broadcastInDim S1x20 ![] bcast_S_S1x20 (constant S_ .f32 0x3F000000#32)) (addf (shapeCast S1x20 (extractStridedSlice S1x1x20 ![0, 0, 0] b slices_S4x1x20_S1x1x20_0_0_0) shapeCasts_S1x1x20_S1x20) (broadcastInDim S1x20 ![1] bcast_S20_S1x20_1 (shapeCast S20 (extractStridedSlice S1x20 ![0, 0] a slices_S4x20_S1x20_0_0) shapeCasts_S1x20_S20)))

/-- Its entries. -/
theorem b2_0_at (b : FVec Ideal S4x1x20 .f32) (a : FVec Ideal S4x20 .f32) (j : Fin 20) : b2_0 b a (ix2 0 j) = hf * (b (ix3 0 0 j) + a (ix2 0 j)) := by
  pointwise [b2_0]
  rw [ofBits_half]

/-- Layer 2's two biases added, slice 2. -/
def b2_2 (b : FVec Ideal S4x1x20 .f32) (a : FVec Ideal S4x20 .f32) : FVec Ideal S1x20 .f32 :=
  addf (shapeCast S1x20 (extractStridedSlice S1x1x20 ![2, 0, 0] b slices_S4x1x20_S1x1x20_2_0_0) shapeCasts_S1x1x20_S1x20) (broadcastInDim S1x20 ![1] bcast_S20_S1x20_1 (shapeCast S20 (extractStridedSlice S1x20 ![2, 0] a slices_S4x20_S1x20_2_0) shapeCasts_S1x20_S20))

/-- Its entries. -/
theorem b2_2_at (b : FVec Ideal S4x1x20 .f32) (a : FVec Ideal S4x20 .f32) (j : Fin 20) : b2_2 b a (ix2 0 j) = b (ix3 2 0 j) + a (ix2 2 j) := by
  pointwise [b2_2]

/-- Layer 2's two biases added, slice 3, halved. -/
def b2_3 (b : FVec Ideal S4x1x20 .f32) (a : FVec Ideal S4x20 .f32) : FVec Ideal S1x20 .f32 :=
  mulf (broadcastInDim S1x20 ![] bcast_S_S1x20 (constant S_ .f32 0x3F000000#32)) (addf (shapeCast S1x20 (extractStridedSlice S1x1x20 ![3, 0, 0] b slices_S4x1x20_S1x1x20_3_0_0) shapeCasts_S1x1x20_S1x20) (broadcastInDim S1x20 ![1] bcast_S20_S1x20_1 (shapeCast S20 (extractStridedSlice S1x20 ![3, 0] a slices_S4x20_S1x20_3_0) shapeCasts_S1x20_S20)))

/-- Its entries. -/
theorem b2_3_at (b : FVec Ideal S4x1x20 .f32) (a : FVec Ideal S4x20 .f32) (j : Fin 20) : b2_3 b a (ix2 0 j) = hf * (b (ix3 3 0 j) + a (ix2 3 j)) := by
  pointwise [b2_3]
  rw [ofBits_half]

/-- Layer 2's output peephole, halved. -/
def p2 (x : FVec Ideal S3x1x20 .f32) : FVec Ideal S1x20 .f32 :=
  mulf (broadcastInDim S1x20 ![] bcast_S_S1x20 (constant S_ .f32 0x3F000000#32)) (shapeCast S1x20 (extractStridedSlice S1x1x20 ![2, 0, 0] x slices_S3x1x20_S1x1x20_2_0_0) shapeCasts_S1x1x20_S1x20)

/-- Its entries. -/
theorem p2_at (x : FVec Ideal S3x1x20 .f32) (j : Fin 20) : p2 x (ix2 0 j) = hf * x (ix3 2 0 j) := by
  pointwise [p2]
  rw [ofBits_half]

/-- The head's bias as a one by one matrix. -/
def l0 (x : FVec Ideal S1 .f32) : FVec Ideal S1x1 .f32 := shapeCast S1x1 x shapeCasts_S1_S1x1

/-- Its entry. -/
theorem l0_at (x : FVec Ideal S1 .f32) : l0 x (ix2 0 0) = x (ix1 0) := by
  pointwise [l0]

end Cert.KernelIdeal.Read
-- ==== Proof.Params.lean ====
module

public import proofs.«01_k».proof.Proof.Gen.KernelIdeal.Value
public import proofs.«01_k».proof.Proof.Blocks
public import Idealize.ShloMosaic.Lib.Pipeline.ValueKit
public import Idealize.ShloMosaic.Lib.StableHlo.RunRead

@[expose] public section

set_option maxRecDepth 16384

noncomputable section

namespace Cert.KernelIdeal.Read

open Idealize.ShloMosaic Idealize.ShloMosaic.TcCoe Idealize.SL.Sem
open Cert.KernelIdeal Cert.KernelIdeal.Gen Cert.Cells Cert.Scalars

/-- The packed parameter array: sixteen blocks of rows, one after another. -/
def packed (p0 p1 p2 : FVec Ideal S128x64 .f32) (p3 p4 p5 : FVec Ideal S64x64 .f32) (p6 p7 p8 p9 p10 p11 p12 p13 : FVec Ideal S8x64 .f32) (p14 : FVec Ideal S64x64 .f32) (p15 : FVec Ideal S8x64 .f32) : FVec Ideal S712x64 .f32 :=
  concatenate S712x64 0 [⟨S128x64, p0⟩, ⟨S128x64, p1⟩, ⟨S128x64, p2⟩, ⟨S64x64, p3⟩, ⟨S64x64, p4⟩, ⟨S64x64, p5⟩, ⟨S8x64, p6⟩, ⟨S8x64, p7⟩, ⟨S8x64, p8⟩, ⟨S8x64, p9⟩, ⟨S8x64, p10⟩, ⟨S8x64, p11⟩, ⟨S8x64, p12⟩, ⟨S8x64, p13⟩, ⟨S64x64, p14⟩, ⟨S8x64, p15⟩]
    concatenates_S128x64_S128x64_S128x64_S64x64_S64x64_S64x64_S8x64_S8x64_S8x64_S8x64_S8x64_S8x64_S8x64_S8x64_S64x64_S8x64_S712x64_d0

/-- Row 0 on of the packed array is block 0. -/
theorem packed_0 (p0 p1 p2 : FVec Ideal S128x64 .f32) (p3 p4 p5 : FVec Ideal S64x64 .f32)
    (p6 p7 p8 p9 p10 p11 p12 p13 : FVec Ideal S8x64 .f32) (p14 : FVec Ideal S64x64 .f32) (p15 : FVec Ideal S8x64 .f32)
    (k : Fin 128) (j : Fin 64) : packed p0 p1 p2 p3 p4 p5 p6 p7 p8 p9 p10 p11 p12 p13 p14 p15 (ix2 ⟨k.val, by omega⟩ j) = p0 (ix2 k j) := by
  exact concatenate_apply_piece (t := S712x64) 0 _ _ _ 0 (by simp) _ p0 rfl rfl 0 rfl (ix2 k j)
    (fun b hb => by match b with | 0 => exact absurd rfl hb | 1 => rfl) (Nat.zero_add _)

/-- Row 128 on of the packed array is block 1. -/
theorem packed_1 (p0 p1 p2 : FVec Ideal S128x64 .f32) (p3 p4 p5 : FVec Ideal S64x64 .f32)
    (p6 p7 p8 p9 p10 p11 p12 p13 : FVec Ideal S8x64 .f32) (p14 : FVec Ideal S64x64 .f32) (p15 : FVec Ideal S8x64 .f32)
    (k : Fin 128) (j : Fin 64) : packed p0 p1 p2 p3 p4 p5 p6 p7 p8 p9 p10 p11 p12 p13 p14 p15 (ix2 ⟨128 + k.val, by omega⟩ j) = p1 (ix2 k j) := by
  exact concatenate_apply_piece (t := S712x64) 0 _ _ _ 1 (by simp) _ p1 rfl rfl 128 rfl (ix2 k j)
    (fun b hb => by match b with | 0 => exact absurd rfl hb | 1 => rfl) rfl

/-- Row 256 on of the packed array is block 2. -/
theorem packed_2 (p0 p1 p2 : FVec Ideal S128x64 .f32) (p3 p4 p5 : FVec Ideal S64x64 .f32)
    (p6 p7 p8 p9 p10 p11 p12 p13 : FVec Ideal S8x64 .f32) (p14 : FVec Ideal S64x64 .f32) (p15 : FVec Ideal S8x64 .f32)
    (k : Fin 128) (j : Fin 64) : packed p0 p1 p2 p3 p4 p5 p6 p7 p8 p9 p10 p11 p12 p13 p14 p15 (ix2 ⟨256 + k.val, by omega⟩ j) = p2 (ix2 k j) := by
  exact concatenate_apply_piece (t := S712x64) 0 _ _ _ 2 (by simp) _ p2 rfl rfl 256 rfl (ix2 k j)
    (fun b hb => by match b with | 0 => exact absurd rfl hb | 1 => rfl) rfl

/-- Row 384 on of the packed array is block 3. -/
theorem packed_3 (p0 p1 p2 : FVec Ideal S128x64 .f32) (p3 p4 p5 : FVec Ideal S64x64 .f32)
    (p6 p7 p8 p9 p10 p11 p12 p13 : FVec Ideal S8x64 .f32) (p14 : FVec Ideal S64x64 .f32) (p15 : FVec Ideal S8x64 .f32)
    (k : Fin 64) (j : Fin 64) : packed p0 p1 p2 p3 p4 p5 p6 p7 p8 p9 p10 p11 p12 p13 p14 p15 (ix2 ⟨384 + k.val, by omega⟩ j) = p3 (ix2 k j) := by
  exact concatenate_apply_piece (t := S712x64) 0 _ _ _ 3 (by simp) _ p3 rfl rfl 384 rfl (ix2 k j)
    (fun b hb => by match b with | 0 => exact absurd rfl hb | 1 => rfl) rfl

/-- Row 448 on of the packed array is block 4. -/
theorem packed_4 (p0 p1 p2 : FVec Ideal S128x64 .f32) (p3 p4 p5 : FVec Ideal S64x64 .f32)
    (p6 p7 p8 p9 p10 p11 p12 p13 : FVec Ideal S8x64 .f32) (p14 : FVec Ideal S64x64 .f32) (p15 : FVec Ideal S8x64 .f32)
    (k : Fin 64) (j : Fin 64) : packed p0 p1 p2 p3 p4 p5 p6 p7 p8 p9 p10 p11 p12 p13 p14 p15 (ix2 ⟨448 + k.val, by omega⟩ j) = p4 (ix2 k j) := by
  exact concatenate_apply_piece (t := S712x64) 0 _ _ _ 4 (by simp) _ p4 rfl rfl 448 rfl (ix2 k j)
    (fun b hb => by match b with | 0 => exact absurd rfl hb | 1 => rfl) rfl

/-- Row 512 on of the packed array is block 5. -/
theorem packed_5 (p0 p1 p2 : FVec Ideal S128x64 .f32) (p3 p4 p5 : FVec Ideal S64x64 .f32)
    (p6 p7 p8 p9 p10 p11 p12 p13 : FVec Ideal S8x64 .f32) (p14 : FVec Ideal S64x64 .f32) (p15 : FVec Ideal S8x64 .f32)
    (k : Fin 64) (j : Fin 64) : packed p0 p1 p2 p3 p4 p5 p6 p7 p8 p9 p10 p11 p12 p13 p14 p15 (ix2 ⟨512 + k.val, by omega⟩ j) = p5 (ix2 k j) := by
  exact concatenate_apply_piece (t := S712x64) 0 _ _ _ 5 (by simp) _ p5 rfl rfl 512 rfl (ix2 k j)
    (fun b hb => by match b with | 0 => exact absurd rfl hb | 1 => rfl) rfl

/-- Row 576 on of the packed array is block 6. -/
theorem packed_6 (p0 p1 p2 : FVec Ideal S128x64 .f32) (p3 p4 p5 : FVec Ideal S64x64 .f32)
    (p6 p7 p8 p9 p10 p11 p12 p13 : FVec Ideal S8x64 .f32) (p14 : FVec Ideal S64x64 .f32) (p15 : FVec Ideal S8x64 .f32)
    (j : Fin 64) : packed p0 p1 p2 p3 p4 p5 p6 p7 p8 p9 p10 p11 p12 p13 p14 p15 (ix2 576 j) = p6 (ix2 0 j) := by
  exact concatenate_apply_piece (t := S712x64) 0 _ _ _ 6 (by simp) _ p6 rfl rfl 576 rfl (ix2 0 j)
    (fun b hb => by match b with | 0 => exact absurd rfl hb | 1 => rfl) rfl

/-- Row 584 on of the packed array is block 7. -/
theorem packed_7 (p0 p1 p2 : FVec Ideal S128x64 .f32) (p3 p4 p5 : FVec Ideal S64x64 .f32)
    (p6 p7 p8 p9 p10 p11 p12 p13 : FVec Ideal S8x64 .f32) (p14 : FVec Ideal S64x64 .f32) (p15 : FVec Ideal S8x64 .f32)
    (j : Fin 64) : packed p0 p1 p2 p3 p4 p5 p6 p7 p8 p9 p10 p11 p12 p13 p14 p15 (ix2 584 j) = p7 (ix2 0 j) := by
  exact concatenate_apply_piece (t := S712x64) 0 _ _ _ 7 (by simp) _ p7 rfl rfl 584 rfl (ix2 0 j)
    (fun b hb => by match b with | 0 => exact absurd rfl hb | 1 => rfl) rfl

/-- Row 592 on of the packed array is block 8. -/
theorem packed_8 (p0 p1 p2 : FVec Ideal S128x64 .f32) (p3 p4 p5 : FVec Ideal S64x64 .f32)
    (p6 p7 p8 p9 p10 p11 p12 p13 : FVec Ideal S8x64 .f32) (p14 : FVec Ideal S64x64 .f32) (p15 : FVec Ideal S8x64 .f32)
    (j : Fin 64) : packed p0 p1 p2 p3 p4 p5 p6 p7 p8 p9 p10 p11 p12 p13 p14 p15 (ix2 592 j) = p8 (ix2 0 j) := by
  exact concatenate_apply_piece (t := S712x64) 0 _ _ _ 8 (by simp) _ p8 rfl rfl 592 rfl (ix2 0 j)
    (fun b hb => by match b with | 0 => exact absurd rfl hb | 1 => rfl) rfl

/-- Row 600 on of the packed array is block 9. -/
theorem packed_9 (p0 p1 p2 : FVec Ideal S128x64 .f32) (p3 p4 p5 : FVec Ideal S64x64 .f32)
    (p6 p7 p8 p9 p10 p11 p12 p13 : FVec Ideal S8x64 .f32) (p14 : FVec Ideal S64x64 .f32) (p15 : FVec Ideal S8x64 .f32)
    (j : Fin 64) : packed p0 p1 p2 p3 p4 p5 p6 p7 p8 p9 p10 p11 p12 p13 p14 p15 (ix2 600 j) = p9 (ix2 0 j) := by
  exact concatenate_apply_piece (t := S712x64) 0 _ _ _ 9 (by simp) _ p9 rfl rfl 600 rfl (ix2 0 j)
    (fun b hb => by match b with | 0 => exact absurd rfl hb | 1 => rfl) rfl

/-- Row 608 on of the packed array is block 10. -/
theorem packed_10 (p0 p1 p2 : FVec Ideal S128x64 .f32) (p3 p4 p5 : FVec Ideal S64x64 .f32)
    (p6 p7 p8 p9 p10 p11 p12 p13 : FVec Ideal S8x64 .f32) (p14 : FVec Ideal S64x64 .f32) (p15 : FVec Ideal S8x64 .f32)
    (j : Fin 64) : packed p0 p1 p2 p3 p4 p5 p6 p7 p8 p9 p10 p11 p12 p13 p14 p15 (ix2 608 j) = p10 (ix2 0 j) := by
  exact concatenate_apply_piece (t := S712x64) 0 _ _ _ 10 (by simp) _ p10 rfl rfl 608 rfl (ix2 0 j)
    (fun b hb => by match b with | 0 => exact absurd rfl hb | 1 => rfl) rfl

/-- Row 616 on of the packed array is block 11. -/
theorem packed_11 (p0 p1 p2 : FVec Ideal S128x64 .f32) (p3 p4 p5 : FVec Ideal S64x64 .f32)
    (p6 p7 p8 p9 p10 p11 p12 p13 : FVec Ideal S8x64 .f32) (p14 : FVec Ideal S64x64 .f32) (p15 : FVec Ideal S8x64 .f32)
    (j : Fin 64) : packed p0 p1 p2 p3 p4 p5 p6 p7 p8 p9 p10 p11 p12 p13 p14 p15 (ix2 616 j) = p11 (ix2 0 j) := by
  exact concatenate_apply_piece (t := S712x64) 0 _ _ _ 11 (by simp) _ p11 rfl rfl 616 rfl (ix2 0 j)
    (fun b hb => by match b with | 0 => exact absurd rfl hb | 1 => rfl) rfl

/-- Row 624 on of the packed array is block 12. -/
theorem packed_12 (p0 p1 p2 : FVec Ideal S128x64 .f32) (p3 p4 p5 : FVec Ideal S64x64 .f32)
    (p6 p7 p8 p9 p10 p11 p12 p13 : FVec Ideal S8x64 .f32) (p14 : FVec Ideal S64x64 .f32) (p15 : FVec Ideal S8x64 .f32)
    (j : Fin 64) : packed p0 p1 p2 p3 p4 p5 p6 p7 p8 p9 p10 p11 p12 p13 p14 p15 (ix2 624 j) = p12 (ix2 0 j) := by
  exact concatenate_apply_piece (t := S712x64) 0 _ _ _ 12 (by simp) _ p12 rfl rfl 624 rfl (ix2 0 j)
    (fun b hb => by match b with | 0 => exact absurd rfl hb | 1 => rfl) rfl

/-- Row 632 on of the packed array is block 13. -/
theorem packed_13 (p0 p1 p2 : FVec Ideal S128x64 .f32) (p3 p4 p5 : FVec Ideal S64x64 .f32)
    (p6 p7 p8 p9 p10 p11 p12 p13 : FVec Ideal S8x64 .f32) (p14 : FVec Ideal S64x64 .f32) (p15 : FVec Ideal S8x64 .f32)
    (j : Fin 64) : packed p0 p1 p2 p3 p4 p5 p6 p7 p8 p9 p10 p11 p12 p13 p14 p15 (ix2 632 j) = p13 (ix2 0 j) := by
  exact concatenate_apply_piece (t := S712x64) 0 _ _ _ 13 (by simp) _ p13 rfl rfl 632 rfl (ix2 0 j)
    (fun b hb => by match b with | 0 => exact absurd rfl hb | 1 => rfl) rfl

/-- Row 640 on of the packed array is block 14. -/
theorem packed_14 (p0 p1 p2 : FVec Ideal S128x64 .f32) (p3 p4 p5 : FVec Ideal S64x64 .f32)
    (p6 p7 p8 p9 p10 p11 p12 p13 : FVec Ideal S8x64 .f32) (p14 : FVec Ideal S64x64 .f32) (p15 : FVec Ideal S8x64 .f32)
    (k : Fin 64) : packed p0 p1 p2 p3 p4 p5 p6 p7 p8 p9 p10 p11 p12 p13 p14 p15 (ix2 ⟨640 + k.val, by omega⟩ 0) = p14 (ix2 k 0) := by
  exact concatenate_apply_piece (t := S712x64) 0 _ _ _ 14 (by simp) _ p14 rfl rfl 640 (by simp) (ix2 k 0)
    (fun b hb => by match b with | 0 => exact absurd rfl hb | 1 => rfl) rfl

/-- Row 704 on of the packed array is block 15. -/
theorem packed_15 (p0 p1 p2 : FVec Ideal S128x64 .f32) (p3 p4 p5 : FVec Ideal S64x64 .f32)
    (p6 p7 p8 p9 p10 p11 p12 p13 : FVec Ideal S8x64 .f32) (p14 : FVec Ideal S64x64 .f32) (p15 : FVec Ideal S8x64 .f32)
     : packed p0 p1 p2 p3 p4 p5 p6 p7 p8 p9 p10 p11 p12 p13 p14 p15 (ix2 704 0) = p15 (ix2 0 0) := by
  exact concatenate_apply_piece (t := S712x64) 0 _ _ _ 15 (by simp) _ p15 rfl rfl 704 (by simp) (ix2 0 0)
    (fun b hb => by match b with | 0 => exact absurd rfl hb | 1 => rfl) rfl

variable (m : (ℓ : Loc nD τ sig) → Buf (Elt Ideal) ℓ)

/-- Block 0, as the host line leaves it. -/
theorem v5_eq (c : Dev nD) : (show FVec Ideal S128x64 .f32 from V m c main_v5)
    = padW1 (w1_0 (m (c, Proc.tc.devRef main_arg3))) := by
  unfold V
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36, hostOps0_37, hostOps0_38, hostOps0_39, hostOps0_40, hostOps0_41, hostOps0_42, hostOps0_43, hostOps0_44, hostOps0_45, hostOps0_46, hostOps0_47, hostOps0_48, hostOps0_49, hostOps0_50, hostOps0_51, hostOps0_52, hostOps0_53, hostOps0_54, hostOps0_55, hostOps0_56, hostOps0_57, hostOps0_58, hostOps0_59, hostOps0_60, hostOps0_61, hostOps0_62, hostOps0_63, hostOps0_64,
    List.flatten_cons, List.flatten_nil, List.append_nil, List.cons_append, List.nil_append]
  after_reads_simp
  rfl

/-- Block 1, as the host line leaves it. -/
theorem v9_eq (c : Dev nD) : (show FVec Ideal S128x64 .f32 from V m c main_v9)
    = padW1 (w1_2 (m (c, Proc.tc.devRef main_arg3))) := by
  unfold V
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36, hostOps0_37, hostOps0_38, hostOps0_39, hostOps0_40, hostOps0_41, hostOps0_42, hostOps0_43, hostOps0_44, hostOps0_45, hostOps0_46, hostOps0_47, hostOps0_48, hostOps0_49, hostOps0_50, hostOps0_51, hostOps0_52, hostOps0_53, hostOps0_54, hostOps0_55, hostOps0_56, hostOps0_57, hostOps0_58, hostOps0_59, hostOps0_60, hostOps0_61, hostOps0_62, hostOps0_63, hostOps0_64,
    List.flatten_cons, List.flatten_nil, List.append_nil, List.cons_append, List.nil_append]
  after_reads_simp
  rfl

/-- Block 2, as the host line leaves it. -/
theorem v15_eq (c : Dev nD) : (show FVec Ideal S128x64 .f32 from V m c main_v15)
    = padW1 (w1_3 (m (c, Proc.tc.devRef main_arg3))) := by
  unfold V
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36, hostOps0_37, hostOps0_38, hostOps0_39, hostOps0_40, hostOps0_41, hostOps0_42, hostOps0_43, hostOps0_44, hostOps0_45, hostOps0_46, hostOps0_47, hostOps0_48, hostOps0_49, hostOps0_50, hostOps0_51, hostOps0_52, hostOps0_53, hostOps0_54, hostOps0_55, hostOps0_56, hostOps0_57, hostOps0_58, hostOps0_59, hostOps0_60, hostOps0_61, hostOps0_62, hostOps0_63, hostOps0_64,
    List.flatten_cons, List.flatten_nil, List.append_nil, List.cons_append, List.nil_append]
  after_reads_simp
  rfl

/-- Block 3, as the host line leaves it. -/
theorem v21_eq (c : Dev nD) : (show FVec Ideal S64x64 .f32 from V m c main_v21)
    = padW2 (w2_0 (m (c, Proc.tc.devRef main_arg9))) := by
  unfold V
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36, hostOps0_37, hostOps0_38, hostOps0_39, hostOps0_40, hostOps0_41, hostOps0_42, hostOps0_43, hostOps0_44, hostOps0_45, hostOps0_46, hostOps0_47, hostOps0_48, hostOps0_49, hostOps0_50, hostOps0_51, hostOps0_52, hostOps0_53, hostOps0_54, hostOps0_55, hostOps0_56, hostOps0_57, hostOps0_58, hostOps0_59, hostOps0_60, hostOps0_61, hostOps0_62, hostOps0_63, hostOps0_64,
    List.flatten_cons, List.flatten_nil, List.append_nil, List.cons_append, List.nil_append]
  after_reads_simp
  rfl

/-- Block 4, as the host line leaves it. -/
theorem v25_eq (c : Dev nD) : (show FVec Ideal S64x64 .f32 from V m c main_v25)
    = padW2 (w2_2 (m (c, Proc.tc.devRef main_arg9))) := by
  unfold V
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36, hostOps0_37, hostOps0_38, hostOps0_39, hostOps0_40, hostOps0_41, hostOps0_42, hostOps0_43, hostOps0_44, hostOps0_45, hostOps0_46, hostOps0_47, hostOps0_48, hostOps0_49, hostOps0_50, hostOps0_51, hostOps0_52, hostOps0_53, hostOps0_54, hostOps0_55, hostOps0_56, hostOps0_57, hostOps0_58, hostOps0_59, hostOps0_60, hostOps0_61, hostOps0_62, hostOps0_63, hostOps0_64,
    List.flatten_cons, List.flatten_nil, List.append_nil, List.cons_append, List.nil_append]
  after_reads_simp
  rfl

/-- Block 5, as the host line leaves it. -/
theorem v31_eq (c : Dev nD) : (show FVec Ideal S64x64 .f32 from V m c main_v31)
    = padW2 (w2_3 (m (c, Proc.tc.devRef main_arg9))) := by
  unfold V
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36, hostOps0_37, hostOps0_38, hostOps0_39, hostOps0_40, hostOps0_41, hostOps0_42, hostOps0_43, hostOps0_44, hostOps0_45, hostOps0_46, hostOps0_47, hostOps0_48, hostOps0_49, hostOps0_50, hostOps0_51, hostOps0_52, hostOps0_53, hostOps0_54, hostOps0_55, hostOps0_56, hostOps0_57, hostOps0_58, hostOps0_59, hostOps0_60, hostOps0_61, hostOps0_62, hostOps0_63, hostOps0_64,
    List.flatten_cons, List.flatten_nil, List.append_nil, List.cons_append, List.nil_append]
  after_reads_simp
  rfl

/-- Block 6, as the host line leaves it. -/
theorem v41_eq (c : Dev nD) : (show FVec Ideal S8x64 .f32 from V m c main_v41)
    = padB1 (b1_0 (m (c, Proc.tc.devRef main_arg4)) (m (c, Proc.tc.devRef main_arg7))) := by
  unfold V
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36, hostOps0_37, hostOps0_38, hostOps0_39, hostOps0_40, hostOps0_41, hostOps0_42, hostOps0_43, hostOps0_44, hostOps0_45, hostOps0_46, hostOps0_47, hostOps0_48, hostOps0_49, hostOps0_50, hostOps0_51, hostOps0_52, hostOps0_53, hostOps0_54, hostOps0_55, hostOps0_56, hostOps0_57, hostOps0_58, hostOps0_59, hostOps0_60, hostOps0_61, hostOps0_62, hostOps0_63, hostOps0_64,
    List.flatten_cons, List.flatten_nil, List.append_nil, List.cons_append, List.nil_append]
  after_reads_simp
  rfl

/-- Block 7, as the host line leaves it. -/
theorem v49_eq (c : Dev nD) : (show FVec Ideal S8x64 .f32 from V m c main_v49)
    = padB1 (b1_2 (m (c, Proc.tc.devRef main_arg4)) (m (c, Proc.tc.devRef main_arg7))) := by
  unfold V
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36, hostOps0_37, hostOps0_38, hostOps0_39, hostOps0_40, hostOps0_41, hostOps0_42, hostOps0_43, hostOps0_44, hostOps0_45, hostOps0_46, hostOps0_47, hostOps0_48, hostOps0_49, hostOps0_50, hostOps0_51, hostOps0_52, hostOps0_53, hostOps0_54, hostOps0_55, hostOps0_56, hostOps0_57, hostOps0_58, hostOps0_59, hostOps0_60, hostOps0_61, hostOps0_62, hostOps0_63, hostOps0_64,
    List.flatten_cons, List.flatten_nil, List.append_nil, List.cons_append, List.nil_append]
  after_reads_simp
  rfl

/-- Block 8, as the host line leaves it. -/
theorem v59_eq (c : Dev nD) : (show FVec Ideal S8x64 .f32 from V m c main_v59)
    = padB1 (b1_3 (m (c, Proc.tc.devRef main_arg4)) (m (c, Proc.tc.devRef main_arg7))) := by
  unfold V
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36, hostOps0_37, hostOps0_38, hostOps0_39, hostOps0_40, hostOps0_41, hostOps0_42, hostOps0_43, hostOps0_44, hostOps0_45, hostOps0_46, hostOps0_47, hostOps0_48, hostOps0_49, hostOps0_50, hostOps0_51, hostOps0_52, hostOps0_53, hostOps0_54, hostOps0_55, hostOps0_56, hostOps0_57, hostOps0_58, hostOps0_59, hostOps0_60, hostOps0_61, hostOps0_62, hostOps0_63, hostOps0_64,
    List.flatten_cons, List.flatten_nil, List.append_nil, List.cons_append, List.nil_append]
  after_reads_simp
  rfl

/-- Block 9, as the host line leaves it. -/
theorem v65_eq (c : Dev nD) : (show FVec Ideal S8x64 .f32 from V m c main_v65)
    = padB1 (p1 (m (c, Proc.tc.devRef main_arg8))) := by
  unfold V
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36, hostOps0_37, hostOps0_38, hostOps0_39, hostOps0_40, hostOps0_41, hostOps0_42, hostOps0_43, hostOps0_44, hostOps0_45, hostOps0_46, hostOps0_47, hostOps0_48, hostOps0_49, hostOps0_50, hostOps0_51, hostOps0_52, hostOps0_53, hostOps0_54, hostOps0_55, hostOps0_56, hostOps0_57, hostOps0_58, hostOps0_59, hostOps0_60, hostOps0_61, hostOps0_62, hostOps0_63, hostOps0_64,
    List.flatten_cons, List.flatten_nil, List.append_nil, List.cons_append, List.nil_append]
  after_reads_simp
  rfl

/-- Block 10, as the host line leaves it. -/
theorem v75_eq (c : Dev nD) : (show FVec Ideal S8x64 .f32 from V m c main_v75)
    = padB2 (b2_0 (m (c, Proc.tc.devRef main_arg10)) (m (c, Proc.tc.devRef main_arg13))) := by
  unfold V
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36, hostOps0_37, hostOps0_38, hostOps0_39, hostOps0_40, hostOps0_41, hostOps0_42, hostOps0_43, hostOps0_44, hostOps0_45, hostOps0_46, hostOps0_47, hostOps0_48, hostOps0_49, hostOps0_50, hostOps0_51, hostOps0_52, hostOps0_53, hostOps0_54, hostOps0_55, hostOps0_56, hostOps0_57, hostOps0_58, hostOps0_59, hostOps0_60, hostOps0_61, hostOps0_62, hostOps0_63, hostOps0_64,
    List.flatten_cons, List.flatten_nil, List.append_nil, List.cons_append, List.nil_append]
  after_reads_simp
  rfl

/-- Block 11, as the host line leaves it. -/
theorem v83_eq (c : Dev nD) : (show FVec Ideal S8x64 .f32 from V m c main_v83)
    = padB2 (b2_2 (m (c, Proc.tc.devRef main_arg10)) (m (c, Proc.tc.devRef main_arg13))) := by
  unfold V
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36, hostOps0_37, hostOps0_38, hostOps0_39, hostOps0_40, hostOps0_41, hostOps0_42, hostOps0_43, hostOps0_44, hostOps0_45, hostOps0_46, hostOps0_47, hostOps0_48, hostOps0_49, hostOps0_50, hostOps0_51, hostOps0_52, hostOps0_53, hostOps0_54, hostOps0_55, hostOps0_56, hostOps0_57, hostOps0_58, hostOps0_59, hostOps0_60, hostOps0_61, hostOps0_62, hostOps0_63, hostOps0_64,
    List.flatten_cons, List.flatten_nil, List.append_nil, List.cons_append, List.nil_append]
  after_reads_simp
  rfl

/-- Block 12, as the host line leaves it. -/
theorem v93_eq (c : Dev nD) : (show FVec Ideal S8x64 .f32 from V m c main_v93)
    = padB2 (b2_3 (m (c, Proc.tc.devRef main_arg10)) (m (c, Proc.tc.devRef main_arg13))) := by
  unfold V
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36, hostOps0_37, hostOps0_38, hostOps0_39, hostOps0_40, hostOps0_41, hostOps0_42, hostOps0_43, hostOps0_44, hostOps0_45, hostOps0_46, hostOps0_47, hostOps0_48, hostOps0_49, hostOps0_50, hostOps0_51, hostOps0_52, hostOps0_53, hostOps0_54, hostOps0_55, hostOps0_56, hostOps0_57, hostOps0_58, hostOps0_59, hostOps0_60, hostOps0_61, hostOps0_62, hostOps0_63, hostOps0_64,
    List.flatten_cons, List.flatten_nil, List.append_nil, List.cons_append, List.nil_append]
  after_reads_simp
  rfl

/-- Block 13, as the host line leaves it. -/
theorem v99_eq (c : Dev nD) : (show FVec Ideal S8x64 .f32 from V m c main_v99)
    = padB2 (p2 (m (c, Proc.tc.devRef main_arg14))) := by
  unfold V
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36, hostOps0_37, hostOps0_38, hostOps0_39, hostOps0_40, hostOps0_41, hostOps0_42, hostOps0_43, hostOps0_44, hostOps0_45, hostOps0_46, hostOps0_47, hostOps0_48, hostOps0_49, hostOps0_50, hostOps0_51, hostOps0_52, hostOps0_53, hostOps0_54, hostOps0_55, hostOps0_56, hostOps0_57, hostOps0_58, hostOps0_59, hostOps0_60, hostOps0_61, hostOps0_62, hostOps0_63, hostOps0_64,
    List.flatten_cons, List.flatten_nil, List.append_nil, List.cons_append, List.nil_append]
  after_reads_simp
  rfl

/-- Block 14, as the host line leaves it. -/
theorem v101_eq (c : Dev nD) : (show FVec Ideal S64x64 .f32 from V m c main_v101)
    = padL (m (c, Proc.tc.devRef main_arg15)) := by
  unfold V
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36, hostOps0_37, hostOps0_38, hostOps0_39, hostOps0_40, hostOps0_41, hostOps0_42, hostOps0_43, hostOps0_44, hostOps0_45, hostOps0_46, hostOps0_47, hostOps0_48, hostOps0_49, hostOps0_50, hostOps0_51, hostOps0_52, hostOps0_53, hostOps0_54, hostOps0_55, hostOps0_56, hostOps0_57, hostOps0_58, hostOps0_59, hostOps0_60, hostOps0_61, hostOps0_62, hostOps0_63, hostOps0_64,
    List.flatten_cons, List.flatten_nil, List.append_nil, List.cons_append, List.nil_append]
  after_reads_simp
  rfl

/-- Block 15, as the host line leaves it. -/
theorem v104_eq (c : Dev nD) : (show FVec Ideal S8x64 .f32 from V m c main_v104)
    = padL0 (l0 (m (c, Proc.tc.devRef main_arg16))) := by
  unfold V
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36, hostOps0_37, hostOps0_38, hostOps0_39, hostOps0_40, hostOps0_41, hostOps0_42, hostOps0_43, hostOps0_44, hostOps0_45, hostOps0_46, hostOps0_47, hostOps0_48, hostOps0_49, hostOps0_50, hostOps0_51, hostOps0_52, hostOps0_53, hostOps0_54, hostOps0_55, hostOps0_56, hostOps0_57, hostOps0_58, hostOps0_59, hostOps0_60, hostOps0_61, hostOps0_62, hostOps0_63, hostOps0_64,
    List.flatten_cons, List.flatten_nil, List.append_nil, List.cons_append, List.nil_append]
  after_reads_simp
  rfl

/-- Before the last operation of a line, a buffer that operation does not write holds what it holds after the line. -/
theorem upto_eq {L : List (HloOp τ sig (Elt Ideal))} {n : ℕ} {op : HloOp τ sig (Elt Ideal)} (hseg : L.drop n = [op])
    (w : Ref sig .tc) (hw : op.writes = {Proc.devRef (τ := τ) .tc w}) {r : Ref sig .tc} (hr : r ≠ w)
    (W : Valuation τ sig (Elt Ideal)) :
    StableHlo.upto L W n (Proc.devRef .tc r) = StableHlo.after L W (Proc.devRef .tc r) := by
  rw [StableHlo.after_last_write [] hseg rfl (by simp)]
  refine (StableHlo.after_unwritten (ops := [op]) [w] ?_ ?_ _).symm
  · simp [hw]
  · simpa using hr

/-- A line of 180 operations ending in the packing leaves, in the packed array, the blocks it leaves. -/
theorem pack_line (L : List (HloOp τ sig (Elt Ideal))) (hseg : L.drop 179 = hostOps0_64)
    (W : Valuation τ sig (Elt Ideal)) :
    (show FVec Ideal S712x64 .f32 from StableHlo.after L W (Proc.devRef .tc main_v105))
      = packed (StableHlo.after L W (Proc.devRef .tc main_v5)) (StableHlo.after L W (Proc.devRef .tc main_v9)) (StableHlo.after L W (Proc.devRef .tc main_v15)) (StableHlo.after L W (Proc.devRef .tc main_v21)) (StableHlo.after L W (Proc.devRef .tc main_v25)) (StableHlo.after L W (Proc.devRef .tc main_v31)) (StableHlo.after L W (Proc.devRef .tc main_v41)) (StableHlo.after L W (Proc.devRef .tc main_v49)) (StableHlo.after L W (Proc.devRef .tc main_v59)) (StableHlo.after L W (Proc.devRef .tc main_v65)) (StableHlo.after L W (Proc.devRef .tc main_v75)) (StableHlo.after L W (Proc.devRef .tc main_v83)) (StableHlo.after L W (Proc.devRef .tc main_v93)) (StableHlo.after L W (Proc.devRef .tc main_v99)) (StableHlo.after L W (Proc.devRef .tc main_v101)) (StableHlo.after L W (Proc.devRef .tc main_v104)) := by
  have e : ∀ r : Ref sig .tc, r ≠ main_v105 →
      StableHlo.upto L W 179 (Proc.devRef .tc r) = StableHlo.after L W (Proc.devRef .tc r) :=
    fun r hr => upto_eq hseg main_v105 rfl hr W
  rw [← e main_v5 (by decide), ← e main_v9 (by decide), ← e main_v15 (by decide), ← e main_v21 (by decide), ← e main_v25 (by decide), ← e main_v31 (by decide), ← e main_v41 (by decide), ← e main_v49 (by decide), ← e main_v59 (by decide), ← e main_v65 (by decide), ← e main_v75 (by decide), ← e main_v83 (by decide), ← e main_v93 (by decide), ← e main_v99 (by decide), ← e main_v101 (by decide), ← e main_v104 (by decide)]
  show StableHlo.after _ _ _ = _
  rw [StableHlo.after_last_write [] hseg rfl (by decide), StableHlo.nary_result']
  rfl

/-- The array the host line packs is made of the sixteen blocks it leaves. -/
theorem v105_eq (c : Dev nD) : (show FVec Ideal S712x64 .f32 from V m c main_v105)
    = packed (V m c main_v5) (V m c main_v9) (V m c main_v15) (V m c main_v21) (V m c main_v25) (V m c main_v31) (V m c main_v41) (V m c main_v49) (V m c main_v59) (V m c main_v65) (V m c main_v75) (V m c main_v83) (V m c main_v93) (V m c main_v99) (V m c main_v101) (V m c main_v104) := by
  unfold V
  exact pack_line _ rfl _

end Cert.KernelIdeal.Read
-- ==== Proof.KerValue.lean ====
module

public import proofs.«01_k».proof.Proof.KerNet
public import proofs.«01_k».proof.Proof.Params

@[expose] public section

set_option maxRecDepth 16384

noncomputable section

namespace Cert.KernelIdeal.Read

open Idealize.ShloMosaic Idealize.ShloMosaic.TcCoe Idealize.SL.Sem
open Cert.KernelIdeal Cert.KernelIdeal.Gen Cert.Cells Cert.Scalars

section Pure

variable (w1 : FVec Ideal S4x128x50 .f32) (b1 : FVec Ideal S4x1x50 .f32) (a1 : FVec Ideal S4x50 .f32)
  (q1 : FVec Ideal S3x1x50 .f32) (w2 : FVec Ideal S4x50x20 .f32) (b2 : FVec Ideal S4x1x20 .f32) (a2 : FVec Ideal S4x20 .f32)
  (q2 : FVec Ideal S3x1x20 .f32) (l : FVec Ideal S20x1 .f32) (z : FVec Ideal S1 .f32)

/-- The packed parameter array, of the parameter arrays. -/
def params : FVec Ideal S712x64 .f32 :=
  packed (padW1 (w1_0 w1))
      (padW1 (w1_2 w1))
      (padW1 (w1_3 w1))
      (padW2 (w2_0 w2))
      (padW2 (w2_2 w2))
      (padW2 (w2_3 w2))
      (padB1 (b1_0 b1 a1))
      (padB1 (b1_2 b1 a1))
      (padB1 (b1_3 b1 a1))
      (padB1 (p1 q1))
      (padB2 (b2_0 b2 a2))
      (padB2 (b2_2 b2 a2))
      (padB2 (b2_3 b2 a2))
      (padB2 (p2 q2))
      (padL l)
      (padL0 (l0 z))

/-- The block the body stores, at a row: the network of that row of the input block. -/
theorem out_at (x0 : FVec Ideal S2000x128 .f32) (y : Fin 2000) :
    (show FVec Ideal S2000x1 .f32 from out0_2 (F := Ideal) x0 (params w1 b1 a1 q1 w2 b2 a2 q2 l z)) (ix2 y 0)
      = net (fun k : Fin 128 => x0 (ix2 y k)) w1 b1 a1 q1 w2 b2 a2 q2 l z := by
  show out0_2 (F := Ideal) x0 _ _ = _
  frame_out
  unfold k0_pay8 k0_pay9 params
  refine (body_at _ _ _ _ _ _ _ _ _ _ _ _ _ _ _ _ _ w1 b1 a1 q1 w2 b2 a2 q2 l z
      ?_ ?_ ?_ ?_ ?_ ?_ ?_ ?_ ?_ ?_ ?_ ?_ ?_ ?_ ?_ ?_ _).trans ?_
  · intro k j
    pointwise [r0_1]
    rw [packed_0, padW1_at]
    simp only [w1_0_at]
  · intro k j
    pointwise [r0_2]
    rw [packed_1, padW1_at]
    simp only [w1_2_at]
  · intro k j
    pointwise [r0_3]
    rw [packed_2, padW1_at]
    simp only [w1_3_at]
  · intro j
    pointwise [r0_4]
    rw [packed_6, padB1_at]
    simp only [b1_0_at]
  · intro j
    pointwise [r0_5]
    rw [packed_7, padB1_at]
    simp only [b1_2_at]
  · intro j
    pointwise [r0_6]
    rw [packed_8, padB1_at]
    simp only [b1_3_at]
  · intro j
    pointwise [r0_7]
    rw [packed_9, padB1_at]
    simp only [p1_at]
  · intro k j
    pointwise [r0_8]
    rw [packed_3, padW2_at]
    simp only [w2_0_at]
  · intro k j
    pointwise [r0_9]
    rw [packed_4, padW2_at]
    simp only [w2_2_at]
  · intro k j
    pointwise [r0_10]
    rw [packed_5, padW2_at]
    simp only [w2_3_at]
  · intro j
    pointwise [r0_11]
    rw [packed_10, padB2_at]
    simp only [b2_0_at]
  · intro j
    pointwise [r0_12]
    rw [packed_11, padB2_at]
    simp only [b2_2_at]
  · intro j
    pointwise [r0_13]
    rw [packed_12, padB2_at]
    simp only [b2_3_at]
  · intro j
    pointwise [r0_14]
    rw [packed_13, padB2_at]
    simp only [p2_at]
  · intro j
    pointwise [r0_15]
    rw [packed_14, padL_at]
  · pointwise [r0_16]
    rw [packed_15, padL0_at, l0_at]
  · congr 1
    funext k
    pointwise [r0_0]

end Pure

/-- The windows' block indices: the node features and the result advance with the grid, the parameters stay. -/
theorem idx : ∀ t : Fin cfg0.N, win0_0.index t = ![t.val, 0] ∧ win0_1.index t = ![0, 0] ∧ win0_2.index t = ![t.val, 0] :=
  (by decide +kernel : ∀ t : Fin grid0.N, _)

variable (m : (ℓ : Loc nD τ sig) → Buf (Elt Ideal) ℓ)

/-- The array the host packs, of the arguments. -/
theorem v105_params (c : Dev nD) : (show FVec Ideal S712x64 .f32 from V m c main_v105)
    = params (m (c, Proc.tc.devRef main_arg3)) (m (c, Proc.tc.devRef main_arg4)) (m (c, Proc.tc.devRef main_arg7))
      (m (c, Proc.tc.devRef main_arg8)) (m (c, Proc.tc.devRef main_arg9)) (m (c, Proc.tc.devRef main_arg10))
      (m (c, Proc.tc.devRef main_arg13)) (m (c, Proc.tc.devRef main_arg14)) (m (c, Proc.tc.devRef main_arg15))
      (m (c, Proc.tc.devRef main_arg16)) := by
  refine (v105_eq m c).trans ?_
  rw [show V m c main_v5 = _ from v5_eq m c, show V m c main_v9 = _ from v9_eq m c, show V m c main_v15 = _ from v15_eq m c, show V m c main_v21 = _ from v21_eq m c, show V m c main_v25 = _ from v25_eq m c, show V m c main_v31 = _ from v31_eq m c, show V m c main_v41 = _ from v41_eq m c, show V m c main_v49 = _ from v49_eq m c, show V m c main_v59 = _ from v59_eq m c, show V m c main_v65 = _ from v65_eq m c, show V m c main_v75 = _ from v75_eq m c, show V m c main_v83 = _ from v83_eq m c, show V m c main_v93 = _ from v93_eq m c, show V m c main_v99 = _ from v99_eq m c, show V m c main_v101 = _ from v101_eq m c, show V m c main_v104 = _ from v104_eq m c]
  rfl

/-- The result array after the kernel: at every node, the network of that node's features. -/
theorem final (c : Dev nD) : (dats (F := Ideal) m 0 c).arrAt 2 cfg0.N = fun i : S10000x1.Idx =>
    net (fun k : Fin 128 => (show FVec Ideal S10000x128 .f32 from m (c, Proc.tc.devRef main_arg0)) (ix2 (i 0) k))
      (m (c, Proc.tc.devRef main_arg3)) (m (c, Proc.tc.devRef main_arg4)) (m (c, Proc.tc.devRef main_arg7))
      (m (c, Proc.tc.devRef main_arg8)) (m (c, Proc.tc.devRef main_arg9)) (m (c, Proc.tc.devRef main_arg10))
      (m (c, Proc.tc.devRef main_arg13)) (m (c, Proc.tc.devRef main_arg14)) (m (c, Proc.tc.devRef main_arg15))
      (m (c, Proc.tc.devRef main_arg16)) := by
  refine (dats (F := Ideal) m 0 c).arrAt_eq_of_covers 2 _ (by decide +kernel) fun t _ y => ?_
  obtain ⟨h0, h1, h2⟩ := idx t
  blk_simp
  rw [after0_2]
  change S2000x1.Idx at y
  have hX : (show FVec Ideal S712x64 .f32 from iblk (F := Ideal) m c 1 t) = V m c main_v105 := by
    funext i
    blk_ext [iblk, V, idx t]
  rw [show iblk (F := Ideal) m c 1 t = _ from hX.trans (v105_params m c)]
  idx_vars y
  obtain rfl : y1 = 0 := Subsingleton.elim _ _
  refine (out_at _ _ _ _ _ _ _ _ _ _ _ _).trans ?_
  congr 1
  funext k
  blk_ext [iblk, V_main_arg0, idx t]

end Cert.KernelIdeal.Read
-- ==== Proof.Conv.lean ====
module

public import Idealize.ShloMosaic.Lib.Pointwise

@[expose] public section

noncomputable section

namespace Cert.Conv

open Idealize.ShloMosaic

/-- Adding zero updates at any indices onto zeros leaves zeros. -/
theorem scatterAdd_zero {s si u : Shape} {w : ℕ} {φ : FTy} (d : ScatterDims s si u) (x : FVec Ideal s φ) (idx : IVec si w)
    (upd : FVec Ideal u φ) (hx : ∀ i, x i = (0 : EReal)) (hu : ∀ i, upd i = (0 : EReal)) (i : s.Idx) :
    Host.scatterAdd (F := Ideal) d x idx upd i = (0 : EReal) := by
  show x i + ∑ j ∈ Finset.univ.filter (fun j => d.resultIdx? j idx = some i), upd j = (0 : EReal)
  rw [hx, Finset.sum_eq_zero fun j _ => hu j, add_zero]

/-- Every element gathered from zeros is zero, whatever the indices. -/
theorem gather_zero {s t si : Shape} {w : ℕ} (d : GatherDims s si t) (x : s.Idx → EReal) (idx : IVec si w)
    (hx : ∀ i, x i = 0) (j : t.Idx) : Host.gather d x idx j = 0 := hx _

end Cert.Conv
-- ==== Proof.RefLayer1.lean ====
module

public import proofs.«01_k».proof.Proof.Gen.ReferenceIdeal.Run
public import proofs.«01_k».proof.Proof.Net
public import proofs.«01_k».proof.Proof.Conv

@[expose] public section

set_option maxRecDepth 16384

noncomputable section

namespace Cert.ReferenceIdeal.Read

open Idealize.ShloMosaic Idealize.ShloMosaic.TcCoe Idealize.SL.Sem
open Cert.ReferenceIdeal Cert.ReferenceIdeal.Gen Cert.ReferenceIdeal.Value Cert.Cells Cert.Conv

/-- The first layer's graph convolution of an all-zero state is its bias alone: gathering, scaling, accumulating and
    multiplying zeros gives zeros, whatever the edges, the norms and the weights. -/
theorem conv50 (Z B : FVec Ideal S10000x50 .f32) (hZ : ∀ i, Z i = (0 : EReal)) (hB : ∀ i, B i = (0 : EReal))
    (i1 i2 : IVec S320000x1 32) (nrm : FVec Ideal S320000x50 .f32) (T0 T1 : FVec Ideal S50x50 .f32) (cb : FVec Ideal S10000x50 .f32) :
    addf (addf (Host.dotGeneral dot_S10000x50_S50x50_S10000x50_1_0_0_1_n_n none Z T0)
      (Host.dotGeneral dot_S10000x50_S50x50_S10000x50_1_0_0_1_n_n none
        (Host.scatterAdd scatter_S10000x50_S320000x1_S320000x50_1_0_0_1 B i1
          (mulf nrm (Host.gather gather_S10000x50_S320000x1_S320000x50_1_0_n_n_0_1_150 Z i2))) T1)) cb = cb := by
  funext i
  have hs := scatterAdd_zero scatter_S10000x50_S320000x1_S320000x50_1_0_0_1 B i1
          (mulf nrm (Host.gather gather_S10000x50_S320000x1_S320000x50_1_0_n_n_0_1_150 Z i2)) hB
          (fun j => by
            show (nrm j : EReal) * Host.gather gather_S10000x50_S320000x1_S320000x50_1_0_n_n_0_1_150 Z i2 j = 0
            rw [gather_zero _ Z i2 hZ, mul_zero])
  generalize Host.scatterAdd (F := Ideal) scatter_S10000x50_S320000x1_S320000x50_1_0_0_1 B i1
          (mulf nrm (Host.gather gather_S10000x50_S320000x1_S320000x50_1_0_n_n_0_1_150 Z i2)) = S at hs ⊢
  idx_vars i
  pointwise [hZ, hs]
  simp

/-- The first layer's initial state is zero everywhere. -/
theorem v36_zero (V0 : Valuation τ sig (Elt Ideal)) (i : S10000x50.Idx) : res_main_v36 (F := Ideal) V0 i = (0 : EReal) := by
  pointwise [res_main_v36]

/-- The array the first layer's messages accumulate onto is zero everywhere. -/
theorem zeros50 (i : S10000x50.Idx) :
    (broadcastInDim S10000x50 ![] bcast_S_S10000x50 (constant (F := Ideal) S_ .f32 0x00000000#32) : FVec Ideal S10000x50 .f32) i = (0 : EReal) := by
  pointwise

/-- Argument 0 of the reference, at its type. -/
abbrev A0 (V0 : Valuation τ sig (Elt Ideal)) : FVec Ideal S10000x128 .f32 := V0 (Proc.devRef .tc main_arg0)
/-- Argument 3 of the reference, at its type. -/
abbrev A3 (V0 : Valuation τ sig (Elt Ideal)) : FVec Ideal S4x128x50 .f32 := V0 (Proc.devRef .tc main_arg3)
/-- Argument 4 of the reference, at its type. -/
abbrev A4 (V0 : Valuation τ sig (Elt Ideal)) : FVec Ideal S4x1x50 .f32 := V0 (Proc.devRef .tc main_arg4)
/-- Argument 7 of the reference, at its type. -/
abbrev A7 (V0 : Valuation τ sig (Elt Ideal)) : FVec Ideal S4x50 .f32 := V0 (Proc.devRef .tc main_arg7)
/-- Argument 8 of the reference, at its type. -/
abbrev A8 (V0 : Valuation τ sig (Elt Ideal)) : FVec Ideal S3x1x50 .f32 := V0 (Proc.devRef .tc main_arg8)

/-- The first layer's input gate times candidate, at row `r` and column `j`, is the layer's memory cell. -/
theorem v188_at (V0 : Valuation τ sig (Elt Ideal)) (r : Fin 10000) (j : Fin 50) :
    (show FVec Ideal S10000x50 .f32 from res_main_v188 (F := Ideal) V0) (ix2 r j)
      = layerC (fun k : Fin 128 => A0 V0 (ix2 r k)) (A3 V0) (A7 V0) (A4 V0) j := by
  unfold res_main_v188
  rw [conv50 _ _ (v36_zero V0) zeros50, conv50 _ _ (v36_zero V0) zeros50]
  pointwise [layerC, refC, res_main_v37]
  simp

/-- The first layer's new memory cell: the forget gate multiplies the zero initial cell, so only the input part is left. -/
theorem v189_at (V0 : Valuation τ sig (Elt Ideal)) (r : Fin 10000) (j : Fin 50) :
    (show FVec Ideal S10000x50 .f32 from res_main_v189 (F := Ideal) V0) (ix2 r j)
      = layerC (fun k : Fin 128 => A0 V0 (ix2 r k)) (A3 V0) (A7 V0) (A4 V0) j := by
  rw [← v188_at]
  unfold res_main_v189
  rw [conv50 _ _ (v36_zero V0) zeros50]
  generalize hq : res_main_v188 (F := Ideal) V0 = q
  pointwise [res_main_v37]
  simp

/-- The first layer's hidden state at row `r` and column `j`. -/
theorem v244_at (V0 : Valuation τ sig (Elt Ideal)) (r : Fin 10000) (j : Fin 50) :
    (show FVec Ideal S10000x50 .f32 from res_main_v244 (F := Ideal) V0) (ix2 r j)
      = layerH (fun k : Fin 128 => A0 V0 (ix2 r k)) (A3 V0) (A7 V0) (A4 V0) (A8 V0) j := by
  unfold res_main_v244 layerH
  rw [conv50 _ _ (v36_zero V0) zeros50, ← v189_at]
  generalize hq : res_main_v189 (F := Ideal) V0 = q
  pointwise [refH]

end Cert.ReferenceIdeal.Read
-- ==== Proof.RefLayer2.lean ====
module

public import proofs.«01_k».proof.Proof.Gen.ReferenceIdeal.Run
public import proofs.«01_k».proof.Proof.Net
public import proofs.«01_k».proof.Proof.Conv
public import proofs.«01_k».proof.Proof.RefLayer1

@[expose] public section

set_option maxRecDepth 16384

noncomputable section

namespace Cert.ReferenceIdeal.Read

open Idealize.ShloMosaic Idealize.ShloMosaic.TcCoe Idealize.SL.Sem
open Cert.ReferenceIdeal Cert.ReferenceIdeal.Gen Cert.ReferenceIdeal.Value Cert.Cells Cert.Conv

/-- The second layer's graph convolution of an all-zero state is its bias alone: gathering, scaling, accumulating and
    multiplying zeros gives zeros, whatever the edges, the norms and the weights. -/
theorem conv20 (Z B : FVec Ideal S10000x20 .f32) (hZ : ∀ i, Z i = (0 : EReal)) (hB : ∀ i, B i = (0 : EReal))
    (i1 i2 : IVec S320000x1 32) (nrm : FVec Ideal S320000x20 .f32) (T0 T1 : FVec Ideal S20x20 .f32) (cb : FVec Ideal S10000x20 .f32) :
    addf (addf (Host.dotGeneral dot_S10000x20_S20x20_S10000x20_1_0_0_1_n_n none Z T0)
      (Host.dotGeneral dot_S10000x20_S20x20_S10000x20_1_0_0_1_n_n none
        (Host.scatterAdd scatter_S10000x20_S320000x1_S320000x20_1_0_0_1 B i1
          (mulf nrm (Host.gather gather_S10000x20_S320000x1_S320000x20_1_0_n_n_0_1_120 Z i2))) T1)) cb = cb := by
  funext i
  have hs := scatterAdd_zero scatter_S10000x20_S320000x1_S320000x20_1_0_0_1 B i1
          (mulf nrm (Host.gather gather_S10000x20_S320000x1_S320000x20_1_0_n_n_0_1_120 Z i2)) hB
          (fun j => by
            show (nrm j : EReal) * Host.gather gather_S10000x20_S320000x1_S320000x20_1_0_n_n_0_1_120 Z i2 j = 0
            rw [gather_zero _ Z i2 hZ, mul_zero])
  generalize Host.scatterAdd (F := Ideal) scatter_S10000x20_S320000x1_S320000x20_1_0_0_1 B i1
          (mulf nrm (Host.gather gather_S10000x20_S320000x1_S320000x20_1_0_n_n_0_1_120 Z i2)) = S at hs ⊢
  idx_vars i
  pointwise [hZ, hs]
  simp

/-- The second layer's initial state is zero everywhere. -/
theorem v245_zero (V0 : Valuation τ sig (Elt Ideal)) (i : S10000x20.Idx) : res_main_v245 (F := Ideal) V0 i = (0 : EReal) := by
  pointwise [res_main_v245]

/-- The array the second layer's messages accumulate onto is zero everywhere. -/
theorem zeros20 (i : S10000x20.Idx) :
    (broadcastInDim S10000x20 ![] bcast_S_S10000x20 (constant (F := Ideal) S_ .f32 0x00000000#32) : FVec Ideal S10000x20 .f32) i = (0 : EReal) := by
  pointwise

/-- Argument 9 of the reference, at its type. -/
abbrev A9 (V0 : Valuation τ sig (Elt Ideal)) : FVec Ideal S4x50x20 .f32 := V0 (Proc.devRef .tc main_arg9)
/-- Argument 10 of the reference, at its type. -/
abbrev A10 (V0 : Valuation τ sig (Elt Ideal)) : FVec Ideal S4x1x20 .f32 := V0 (Proc.devRef .tc main_arg10)
/-- Argument 13 of the reference, at its type. -/
abbrev A13 (V0 : Valuation τ sig (Elt Ideal)) : FVec Ideal S4x20 .f32 := V0 (Proc.devRef .tc main_arg13)
/-- Argument 14 of the reference, at its type. -/
abbrev A14 (V0 : Valuation τ sig (Elt Ideal)) : FVec Ideal S3x1x20 .f32 := V0 (Proc.devRef .tc main_arg14)
/-- Argument 15 of the reference, at its type. -/
abbrev A15 (V0 : Valuation τ sig (Elt Ideal)) : FVec Ideal S20x1 .f32 := V0 (Proc.devRef .tc main_arg15)
/-- Argument 16 of the reference, at its type. -/
abbrev A16 (V0 : Valuation τ sig (Elt Ideal)) : FVec Ideal S1 .f32 := V0 (Proc.devRef .tc main_arg16)

/-- The first layer's hidden row `r`, which the second layer reads. -/
abbrev h1 (V0 : Valuation τ sig (Elt Ideal)) (r : Fin 10000) : Fin 50 → EReal :=
  fun k => layerH (fun k : Fin 128 => A0 V0 (ix2 r k)) (A3 V0) (A7 V0) (A4 V0) (A8 V0) k

/-- The second layer's input gate times candidate, at row `r` and column `j`, is the layer's memory cell. -/
theorem v397_at (V0 : Valuation τ sig (Elt Ideal)) (r : Fin 10000) (j : Fin 20) :
    (show FVec Ideal S10000x20 .f32 from res_main_v397 (F := Ideal) V0) (ix2 r j)
      = layerC (h1 V0 r) (A9 V0) (A13 V0) (A10 V0) j := by
  unfold res_main_v397
  rw [conv20 _ _ (v245_zero V0) zeros20, conv20 _ _ (v245_zero V0) zeros20]
  have hh := v244_at V0 r
  generalize res_main_v244 (F := Ideal) V0 = q at hh ⊢
  pointwise [layerC, refC, res_main_v246]
  simp only [mul_zero, add_zero, ← hh]

/-- The second layer's new memory cell: again only the input part is left. -/
theorem v398_at (V0 : Valuation τ sig (Elt Ideal)) (r : Fin 10000) (j : Fin 20) :
    (show FVec Ideal S10000x20 .f32 from res_main_v398 (F := Ideal) V0) (ix2 r j)
      = layerC (h1 V0 r) (A9 V0) (A13 V0) (A10 V0) j := by
  rw [← v397_at]
  unfold res_main_v398
  rw [conv20 _ _ (v245_zero V0) zeros20]
  generalize hq : res_main_v397 (F := Ideal) V0 = q
  pointwise [res_main_v246]
  simp

/-- The reference's result at row `r` is the network's value on that row's features. -/
theorem result_at (V0 : Valuation τ sig (Elt Ideal)) (r : Fin 10000) :
    (show FVec Ideal S10000x1 .f32 from val9 (F := Ideal) V0 (Proc.devRef .tc main_v458)) (ix2 r 0)
      = net (fun k : Fin 128 => A0 V0 (ix2 r k)) (A3 V0) (A4 V0) (A7 V0) (A8 V0) (A9 V0) (A10 V0) (A13 V0) (A14 V0) (A15 V0) (A16 V0) := by
  rw [val9_main_v458, conv20 _ _ (v245_zero V0) zeros20]
  have hh := v244_at V0 r
  have hc := v398_at V0 r
  change _ = (∑ j : Fin 20, max (layerH (h1 V0 r) (A9 V0) (A13 V0) (A10 V0) (A14 V0) j) 0 * A15 V0 (ix2 j 0)) + A16 V0 (ix1 0)
  have hx : h1 V0 r = fun k => (show FVec Ideal S10000x50 .f32 from res_main_v244 (F := Ideal) V0) (ix2 r k) := (funext hh).symm
  simp only [layerH, ← hc]
  rw [hx]
  generalize res_main_v244 (F := Ideal) V0 = q
  generalize res_main_v398 (F := Ideal) V0 = q2
  pointwise [refH]

end Cert.ReferenceIdeal.Read
-- ==== Proof.Join.lean ====
module

public import proofs.«01_k».proof.Defs
public import proofs.«01_k».proof.Proof.KerValue
public import proofs.«01_k».proof.Proof.RefLayer2
public import Idealize.ShloMosaic.Lib.Quiescent

@[expose] public section

noncomputable section

namespace Cert.Join

open Idealize.ShloMosaic Idealize.ShloMosaic.TcCoe Idealize.SL.Sem Cert.Cells

/-- The reference's result array, as a function of its arguments: at every node, the network of that node's features. -/
theorem ref_final (V0 : Valuation Cert.ReferenceIdeal.τ Cert.ReferenceIdeal.sig (Elt Ideal)) :
    (show FVec Ideal Cert.ReferenceIdeal.S10000x1 .f32 from
        Cert.ReferenceIdeal.Value.val9 (F := Ideal) V0 (Proc.devRef .tc Cert.ReferenceIdeal.main_v458))
      = fun i => net (fun k : Fin 128 => Cert.ReferenceIdeal.Read.A0 V0 (ix2 (i 0) k)) (Cert.ReferenceIdeal.Read.A3 V0)
          (Cert.ReferenceIdeal.Read.A4 V0) (Cert.ReferenceIdeal.Read.A7 V0) (Cert.ReferenceIdeal.Read.A8 V0)
          (Cert.ReferenceIdeal.Read.A9 V0) (Cert.ReferenceIdeal.Read.A10 V0) (Cert.ReferenceIdeal.Read.A13 V0)
          (Cert.ReferenceIdeal.Read.A14 V0) (Cert.ReferenceIdeal.Read.A15 V0) (Cert.ReferenceIdeal.Read.A16 V0) := by
  funext i
  idx_vars i
  obtain rfl : i1 = 0 := Subsingleton.elim _ _
  exact Cert.ReferenceIdeal.Read.result_at V0 i0

/-- The reference runs, leaves its arguments unchanged and every semaphore counter at zero (it declares none). -/
theorem ref_frame : Cert.quiescent_ReferenceIdeal (hReferenceIdeal := Cert.ReferenceIdeal.Gen.facts) := by
  intro m g _
  exact (θ_run _ _ _).mono (fun r h => ⟨fun c => (h c).2, sem_eq_zero_of_no_sems rfl _⟩)
    (Cert.ReferenceIdeal.Value.run (F := Ideal) m g)

/-- From memories agreeing on the arguments, the kernel's result array is the reference's, and both leave their arguments
    unchanged. -/
theorem algebraic : Cert.algebraic_KernelIdeal_ReferenceIdeal (hKernelIdeal := Cert.KernelIdeal.Gen.facts)
    (hReferenceIdeal := Cert.ReferenceIdeal.Gen.facts) := by
  intro m g m' g' _ hagree
  refine ⟨fun c => (Cert.KernelIdeal.Gen.dats (F := Ideal) m 0 c).arrAt 2 Cert.KernelIdeal.cfg0.N,
    Cert.KernelIdeal.Value.run_blocks (F := Ideal) m g, ?_⟩
  refine (θ_run _ _ _).mono (fun r h c => ⟨(h c).1.trans ?_, (h c).2⟩) (Cert.ReferenceIdeal.Value.run (F := Ideal) m' g')
  refine (Cert.ReferenceIdeal.Value.val9_main_v458 (F := Ideal) (StableHlo.launchContents m' c)).symm.trans ?_
  refine (ref_final _).trans ?_
  refine Eq.trans ?_ (Cert.KernelIdeal.Read.final m c).symm
  obtain ⟨e0, -, -, e3, e4, -, -, e7, e8, e9, e10, -, -, e13, e14, e15, e16⟩ := hagree c
  funext i
  have k0 : Cert.ReferenceIdeal.Read.A0 (StableHlo.launchContents m' c) = _ := e0
  have k3 : Cert.ReferenceIdeal.Read.A3 (StableHlo.launchContents m' c) = _ := e3
  have k4 : Cert.ReferenceIdeal.Read.A4 (StableHlo.launchContents m' c) = _ := e4
  have k7 : Cert.ReferenceIdeal.Read.A7 (StableHlo.launchContents m' c) = _ := e7
  have k8 : Cert.ReferenceIdeal.Read.A8 (StableHlo.launchContents m' c) = _ := e8
  have k9 : Cert.ReferenceIdeal.Read.A9 (StableHlo.launchContents m' c) = _ := e9
  have k10 : Cert.ReferenceIdeal.Read.A10 (StableHlo.launchContents m' c) = _ := e10
  have k13 : Cert.ReferenceIdeal.Read.A13 (StableHlo.launchContents m' c) = _ := e13
  have k14 : Cert.ReferenceIdeal.Read.A14 (StableHlo.launchContents m' c) = _ := e14
  have k15 : Cert.ReferenceIdeal.Read.A15 (StableHlo.launchContents m' c) = _ := e15
  have k16 : Cert.ReferenceIdeal.Read.A16 (StableHlo.launchContents m' c) = _ := e16
  rw [k0, k3, k4, k7, k8, k9, k10, k13, k14, k15, k16]

end Cert.Join
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Join
public import Idealize.ShloMosaic.Adequacy
public import Idealize.ShloMosaic.Init

@[expose] public section

noncomputable section

namespace Cert.Proof

open Idealize.ShloMosaic Idealize.SL.Sem Cert.Kernel

/-- All five claims: the three programs run and leave their arguments unchanged, the idealized kernel is the kernel with its
    float operations read exactly, and the idealized kernel and the reference return the same array. -/
theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ, Cert.Join.ref_frame, trivial,
  Cert.Join.algebraic⟩

end Cert.Proof

end
